-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_recallable [hPre_recallable : Cert.Pre_recallable.Facts] (m : (ℓ : Loc Cert.KernelIdeal.nD Cert.KernelIdeal.τ Cert.KernelIdeal.sig) → Buf (Elt Ideal) ℓ) : Prop :=
  ∀ c : Dev Cert.KernelIdeal.nD,
    (Cert.Pre_recallable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_recallable [hPre_recallable : Cert.Pre_recallable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_recallable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_recallable [hKernelIdeal : Cert.KernelIdeal.Facts] [hPre_recallable : Cert.Pre_recallable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_recallable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_recallable [hReferenceIdeal : Cert.ReferenceIdeal.Facts] [hPre_recallable : Cert.Pre_recallable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_recallable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_recallable [hKernelIdeal : Cert.KernelIdeal.Facts] [hReferenceIdeal : Cert.ReferenceIdeal.Facts] [hPre_recallable : Cert.Pre_recallable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_recallable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_recallable : Cert.Pre_recallable.Facts),
    quiescent_Kernel (hKernel := hKernel)
    ∧ quiescent_KernelIdeal (hKernelIdeal := hKernelIdeal)
    ∧ quiescent_KernelIdeal_pre_recallable (hKernelIdeal := hKernelIdeal) (hPre_recallable := hPre_recallable)
    ∧ quiescent_ReferenceIdeal (hReferenceIdeal := hReferenceIdeal)
    ∧ quiescent_ReferenceIdeal_pre_recallable (hReferenceIdeal := hReferenceIdeal) (hPre_recallable := hPre_recallable)
    ∧ preserves_Kernel_KernelIdeal
    ∧ algebraic_KernelIdeal_ReferenceIdeal_pre_recallable (hKernelIdeal := hKernelIdeal) (hReferenceIdeal := hReferenceIdeal) (hPre_recallable := hPre_recallable)
-- ==== Pre_recallable.lean ====
abbrev S4096x512 : Shape := ⟨2, ![4096, 512]⟩
abbrev S8192x512 : Shape := ⟨2, ![8192, 512]⟩
abbrev S512x512 : Shape := ⟨2, ![512, 512]⟩
abbrev S512x1024 : Shape := ⟨2, ![512, 1024]⟩
abbrev S512 : Shape := ⟨1, ![512]⟩
abbrev S_ : Shape := ⟨0, ![]⟩
abbrev S8192 : Shape := ⟨1, ![8192]⟩
abbrev S8192x1 : Shape := ⟨2, ![8192, 1]⟩
abbrev S4096 : Shape := ⟨1, ![4096]⟩
abbrev S4096x1 : Shape := ⟨2, ![4096, 1]⟩
abbrev S512x8192 : Shape := ⟨2, ![512, 8192]⟩
abbrev S4096x8192 : Shape := ⟨2, ![4096, 8192]⟩
abbrev S4096x9 : Shape := ⟨2, ![4096, 9]⟩
abbrev S4096x8 : Shape := ⟨2, ![4096, 8]⟩
abbrev S4096x8x1 : Shape := ⟨3, ![4096, 8, 1]⟩
abbrev S4096x1x8 : Shape := ⟨3, ![4096, 1, 8]⟩
abbrev S4096x8x8 : Shape := ⟨3, ![4096, 8, 8]⟩

class Facts : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S4096x512_S4096_d1 : S4096x512.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  transposes_S8192x512_S512x8192_1_0 : S8192x512.Transposes [1, 0] S512x8192
  sliceFits_S4096x8192_S4096x9 : S4096x8192.Slices (fun _ => 0) S4096x9
  slices_S4096x9_S4096x8_0_0 : S4096x9.Slices ![0, 0] S4096x8
  slices_S4096x9_S4096x8_0_1 : S4096x9.Slices ![0, 1] S4096x8
  bcast_S_S4096x8 : S_.BroadcastsInDim S4096x8 (![] : Fin 0 → Fin S4096x8.rank)
  bcast_S4096x8_S4096x8x1_0_1 : S4096x8.BroadcastsInDim S4096x8x1 (![0, 1] : Fin 2 → Fin S4096x8x1.rank)
  bcast_S4096x8_S4096x1x8_0_2 : S4096x8.BroadcastsInDim S4096x1x8 (![0, 2] : Fin 2 → Fin S4096x1x8.rank)
  bcast_S4096x8x1_S4096x8x8_0_1_2 : S4096x8x1.BroadcastsInDim S4096x8x8 (![0, 1, 2] : Fin 3 → Fin S4096x8x8.rank)
  bcast_S4096x1x8_S4096x8x8_0_1_2 : S4096x1x8.BroadcastsInDim S4096x8x8 (![0, 1, 2] : Fin 3 → Fin S4096x8x8.rank)
  natLt_1_32 : 1 < 32
  reducesTo_S4096x8x8_S4096x8_d2 : S4096x8x8.ReducesTo [2] S4096x8
  reducesTo_S8192x512_S_d0_1 : S8192x512.ReducesTo [0, 1] S_
  reducesTo_S4096x8_S_d0_1 : S4096x8.ReducesTo [0, 1] S_
  dot_S4096x512_S512x8192_S4096x8192_1_0_0_1_n_n_wf : DotDims.WF S4096x512 S512x8192 S4096x8192 [1] [0] [0] [1] [] []

variable [Facts]

def dot_S4096x512_S512x8192_S4096x8192_1_0_0_1_n_n : DotDims S4096x512 S512x8192 S4096x8192 where
  lhsContracting := [1]
  rhsContracting := [0]
  lhsNonContracting := [0]
  rhsNonContracting := [1]
  lhsBatch := []
  rhsBatch := []
  wf := dot_S4096x512_S512x8192_S4096x8192_1_0_0_1_n_n_wf
def fn_part2 {F : FTy → Type} [FloatOps F] (main_v33 : IVec S4096x8 1) (main_v36 : IVec S_ 1) : IVec S_ 1 :=
  let main_c_7 : IVec S_ 1 := constantI S_ 1 1#1
  let main_v37 : IVec S_ 1 := (fun x v => Host.reduce IntOp.andi x v reducesTo_S4096x8_S_d0_1 h_S_) main_v33 main_c_7
  let main_v38 : IVec S_ 1 := andi main_v36 main_v37
  main_v38

def fn_part1 {F : FTy → Type} [FloatOps F] (main_v8 : IVec S8192x512 1) (main_v18 : FVec F S4096x8192 .f32) (main_values : FVec F S4096x9 .f32) : IVec S_ 1 :=
  let main_indices : IVec S4096x9 32 := (fun x => (Host.topK S4096x9 1 (FloatOps.cmpfTotal .gt) x sliceFits_S4096x8192_S4096x9).2) main_v18
  let main_v19 : FVec F S4096x8 .f32 := (extractStridedSlice S4096x8 ![0, 0] · slices_S4096x9_S4096x8_0_0) main_values
  let main_v20 : FVec F S4096x8 .f32 := (extractStridedSlice S4096x8 ![0, 1] · slices_S4096x9_S4096x8_0_1) main_values
  let main_v21 : IVec S4096x8 1 := cmpf .ogt main_v19 main_v20
  let main_v22 : IVec S4096x8 32 := (extractStridedSlice S4096x8 ![0, 0] · slices_S4096x9_S4096x8_0_0) main_indices
  let main_c : IVec S_ 32 := constantI S_ 32 127#32
  let main_v23 : IVec S4096x8 32 := broadcastInDim S4096x8 ![] bcast_S_S4096x8 main_c
  let main_v24 : IVec S4096x8 32 := andi main_v22 main_v23
  let main_v25 : IVec S4096x8x1 32 := broadcastInDim S4096x8x1 ![0, 1] bcast_S4096x8_S4096x8x1_0_1 main_v24
  let main_v26 : IVec S4096x1x8 32 := broadcastInDim S4096x1x8 ![0, 2] bcast_S4096x8_S4096x1x8_0_2 main_v24
  let main_v27 : IVec S4096x8x8 32 := broadcastInDim S4096x8x8 ![0, 1, 2] bcast_S4096x8x1_S4096x8x8_0_1_2 main_v25
  let main_v28 : IVec S4096x8x8 32 := broadcastInDim S4096x8x8 ![0, 1, 2] bcast_S4096x1x8_S4096x8x8_0_1_2 main_v26
  let main_v29 : IVec S4096x8x8 1 := cmpi .eq main_v27 main_v28
  let main_v30 : IVec S4096x8x8 32 := (extui 32 · natLt_1_32) main_v29
  let main_c_3 : IVec S_ 32 := constantI S_ 32 0#32
  let main_v31 : IVec S4096x8 32 := (fun x v => Host.reduce IntOp.addi x v reducesTo_S4096x8x8_S4096x8_d2 h_S_) main_v30 main_c_3
  let main_c_4 : IVec S_ 32 := constantI S_ 32 4#32
  let main_v32 : IVec S4096x8 32 := broadcastInDim S4096x8 ![] bcast_S_S4096x8 main_c_4
  let main_v33 : IVec S4096x8 1 := cmpi .sle main_v31 main_v32
  let main_c_5 : IVec S_ 1 := constantI S_ 1 1#1
  let main_v34 : IVec S_ 1 := (fun x v => Host.reduce IntOp.andi x v reducesTo_S8192x512_S_d0_1 h_S_) main_v8 main_c_5
  let main_c_6 : IVec S_ 1 := constantI S_ 1 1#1
  let main_v35 : IVec S_ 1 := (fun x v => Host.reduce IntOp.andi x v reducesTo_S4096x8_S_d0_1 h_S_) main_v21 main_c_6
  let main_v36 : IVec S_ 1 := andi main_v34 main_v35
  fn_part2 (F := F) main_v33 main_v36

def fn {F : FTy → Type} [FloatOps F] (main_arg0 : FVec F S4096x512 .f32) (main_arg1 : FVec F S8192x512 .f32) (main_arg2 : FVec F S512x512 .f32) (main_arg3 : FVec F S512x1024 .f32) (main_arg4 : FVec F S512 .f32) : IVec S_ 1 :=
  let main_v0 : FVec F S8192x512 .f32 := mulf main_arg1 main_arg1
  let main_cst : FVec F S_ .f32 := constant S_ .f32 0x00000000#32
  let main_v1 : FVec F S8192 .f32 := (fun x v => Host.reduceAdd x v reducesTo_S8192x512_S8192_d1 h_S_) main_v0 main_cst
  let main_v2 : FVec F S8192x1 .f32 := broadcastInDim S8192x1 ![0] bcast_S8192_S8192x1_0 main_v1
  let main_v3 : FVec F S8192x1 .f32 := Host.sqrt main_v2
  let main_cst_0 : FVec F S_ .f32 := constant S_ .f32 0x2B8CBCCC#32
  let main_v4 : FVec F S8192x1 .f32 := broadcastInDim S8192x1 ![] bcast_S_S8192x1 main_cst_0
  let main_v5 : FVec F S8192x1 .f32 := maximumf main_v3 main_v4
  let main_v6 : FVec F S8192x512 .f32 := broadcastInDim S8192x512 ![0, 1] bcast_S8192x1_S8192x512_0_1 main_v5
  let main_v7 : FVec F S8192x512 .f32 := Host.divf main_arg1 main_v6
  let main_v8 : IVec S8192x512 1 := cmpf .oeq main_v7 main_arg1
  let main_v9 : FVec F S4096x512 .f32 := mulf main_arg0 main_arg0
  let main_cst_1 : FVec F S_ .f32 := constant S_ .f32 0x00000000#32
  let main_v10 : FVec F S4096 .f32 := (fun x v => Host.reduceAdd x v reducesTo_S4096x512_S4096_d1 h_S_) main_v9 main_cst_1
  let main_v11 : FVec F S4096x1 .f32 := broadcastInDim S4096x1 ![0] bcast_S4096_S4096x1_0 main_v10
  let main_v12 : FVec F S4096x1 .f32 := Host.sqrt main_v11
  let main_cst_2 : FVec F S_ .f32 := constant S_ .f32 0x2B8CBCCC#32
  let main_v13 : FVec F S4096x1 .f32 := broadcastInDim S4096x1 ![] bcast_S_S4096x1 main_cst_2
  let main_v14 : FVec F S4096x1 .f32 := maximumf main_v12 main_v13
  let main_v15 : FVec F S4096x512 .f32 := broadcastInDim S4096x512 ![0, 1] bcast_S4096x1_S4096x512_0_1 main_v14
  let main_v16 : FVec F S4096x512 .f32 := Host.divf main_arg0 main_v15
  let main_v17 : FVec F S512x8192 .f32 := (transpose S512x8192 [1, 0] · transposes_S8192x512_S512x8192_1_0) main_arg1
  let main_v18 : FVec F S4096x8192 .f32 := (fun l r => Host.dotGeneral dot_S4096x512_S512x8192_S4096x8192_1_0_0_1_n_n none l r) main_v16 main_v17
  let main_values : FVec F S4096x9 .f32 := (fun x => (Host.topK S4096x9 1 (FloatOps.cmpfTotal .gt) x sliceFits_S4096x8192_S4096x9).1) main_v18
  fn_part1 (F := F) main_v8 main_v18 main_values
-- ==== Kernel.lean ====
abbrev S4096x512 : Shape := ⟨2, ![4096, 512]⟩
abbrev S8192x512 : Shape := ⟨2, ![8192, 512]⟩
abbrev S512x512 : Shape := ⟨2, ![512, 512]⟩
abbrev S512x1024 : Shape := ⟨2, ![512, 1024]⟩
abbrev S512 : Shape := ⟨1, ![512]⟩
abbrev S1x512 : Shape := ⟨2, ![1, 512]⟩
abbrev S1024x512 : Shape := ⟨2, ![1024, 512]⟩
abbrev S8x512x1024 : Shape := ⟨3, ![8, 512, 1024]⟩
abbrev S8x1024x512 : Shape := ⟨3, ![8, 1024, 512]⟩
abbrev S4x512x128 : Shape := ⟨3, ![4, 512, 128]⟩
abbrev S512x1 : Shape := ⟨2, ![512, 1]⟩
abbrev S1x512x1024 : Shape := ⟨3, ![1, 512, 1024]⟩
abbrev S1x1024x512 : Shape := ⟨3, ![1, 1024, 512]⟩
abbrev S1x512x128 : Shape := ⟨3, ![1, 512, 128]⟩
abbrev S512x128 : Shape := ⟨2, ![512, 128]⟩

abbrev nBuf : Space → Nat
  | .hbm => 12
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S512x512, .f32⟩
  | .hbm, ⟨3, _⟩ => ⟨S512x1024, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S1x512, .f32⟩
  | .hbm, ⟨11, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S8x512x1024, .f32⟩
  | .local _ .vmem, ⟨11, _⟩ => ⟨S8x1024x512, .bf16⟩
  | .local _ .vmem, ⟨12, _⟩ => ⟨S4x512x128, .f32⟩
  | .local _ .vmem, ⟨13, _⟩ => ⟨S512x512, .f32⟩
  | .local _ .vmem, ⟨14, _⟩ => ⟨S512x1, .f32⟩
  | .local _ .vmem, ⟨15, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg1 : BitVec 32 := BitVec.ofNat 32 (i 1).val
  let v31 : Index := Scalar.indexCast arg1
  let c0_16 : Index := 0#32
  let c0_17 : Index := 0#32
  ![v31.toNat, 0, 0]
def k0_off2 (i : grid0.Coords) : Fin 3 → Nat :=
  let arg1 : BitVec 32 := BitVec.ofNat 32 (i 1).val
  let v36 : Index := Scalar.indexCast arg1
  let c0_18 : Index := 0#32
  let c0_19 : Index := 0#32
  ![v36.toNat, 0, 0]
def k0_cond3 (i : grid0.Coords) : BitVec 1 :=
  let arg1 : BitVec 32 := BitVec.ofNat 32 (i 1).val
  let c1_i32 : BitVec 32 := 1#32
  let v6 : BitVec 1 := Scalar.cmpi .sge arg1 c1_i32
  let c8_i32_2 : BitVec 32 := 8#32
  let v7 : BitVec 1 := Scalar.cmpi .slt arg1 c8_i32_2
  let v8 : BitVec 1 := Scalar.andi v6 v7
  let v9 : BitVec 32 := Scalar.extui v8
  let c0_i32_3 : BitVec 32 := 0#32
  let v10 : BitVec 1 := Scalar.cmpi .ne v9 c0_i32_3
  v10

def k0_off3 (i : grid0.Coords) : Fin 3 → Nat :=
  let arg1 : BitVec 32 := BitVec.ofNat 32 (i 1).val
  let c1_i32_10 : BitVec 32 := 1#32
  let v20 : BitVec 32 := Scalar.subi arg1 c1_i32_10
  let v21 : Index := Scalar.indexCast v20
  let c0 : Index := 0#32
  let c0_11 : Index := 0#32
  ![v21.toNat, 0, 0]
def k0_cond5 (i : grid0.Coords) : BitVec 1 :=
  let arg1 : BitVec 32 := BitVec.ofNat 32 (i 1).val
  let c8_i32_7 : BitVec 32 := 8#32
  let v14 : BitVec 1 := Scalar.cmpi .sge arg1 c8_i32_7
  let v15 : BitVec 32 := Scalar.extui v14
  let c0_i32_8 : BitVec 32 := 0#32
  let v16 : BitVec 1 := Scalar.cmpi .ne v15 c0_i32_8
  v16

def k0_off4 (i : grid0.Coords) : Fin 3 → Nat :=
  let arg1 : BitVec 32 := BitVec.ofNat 32 (i 1).val
  let c8_i32_10 : BitVec 32 := 8#32
  let v20 : BitVec 32 := Scalar.subi arg1 c8_i32_10
  let v21 : Index := Scalar.indexCast v20
  let c0 : Index := 0#32
  let c0_11 : Index := 0#32
  ![v21.toNat, 0, 0]
def k0_off5 (i : grid0.Coords) : Fin 3 → Nat :=
  let arg1 : BitVec 32 := BitVec.ofNat 32 (i 1).val
  let c8_i32_15 : BitVec 32 := 8#32
  let v34 : BitVec 32 := Scalar.subi arg1 c8_i32_15
  let v35 : Index := Scalar.indexCast v34
  let c0_16 : Index := 0#32
  let c0_17 : Index := 0#32
  ![v35.toNat, 0, 0]
def k0_cond8 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4096x512 : Shape := ⟨2, ![4096, 512]⟩
abbrev S8192x512 : Shape := ⟨2, ![8192, 512]⟩
abbrev S512x512 : Shape := ⟨2, ![512, 512]⟩
abbrev S512x1024 : Shape := ⟨2, ![512, 1024]⟩
abbrev S512 : Shape := ⟨1, ![512]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S512x8192 : Shape := ⟨2, ![512, 8192]⟩
abbrev S4096x8192 : Shape := ⟨2, ![4096, 8192]⟩
abbrev S4096x8 : Shape := ⟨2, ![4096, 8]⟩
abbrev S4096x8x1 : Shape := ⟨3, ![4096, 8, 1]⟩
abbrev S1 : Shape := ⟨1, ![1]⟩
abbrev S1x1x1 : Shape := ⟨3, ![1, 1, 1]⟩
abbrev S4096x8x512 : Shape := ⟨3, ![4096, 8, 512]⟩
abbrev S4096x1024 : Shape := ⟨2, ![4096, 1024]⟩
abbrev S1024x512 : Shape := ⟨2, ![1024, 512]⟩
abbrev S1x512 : Shape := ⟨2, ![1, 512]⟩

abbrev nBuf : Space → Nat
  | .hbm => 89
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S512x512, .f32⟩
  | .hbm, ⟨3, _⟩ => ⟨S512x1024, .f32⟩
  | .hbm, ⟨4, _⟩ => ⟨S512, .f32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x512, .f32⟩
  | .hbm, ⟨14, _⟩ => ⟨S4096x512, .f32⟩
  | .hbm, ⟨15, _⟩ => ⟨S8192x512, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x512, .f32⟩
  | .hbm, ⟨24, _⟩ => ⟨S8192x512, .f32⟩
  | .hbm, ⟨25, _⟩ => ⟨S512x8192, .f32⟩
  | .hbm, ⟨26, _⟩ => ⟨S4096x8192, .f32⟩
  | .hbm, ⟨27, _⟩ => ⟨S4096x8, .f32⟩
  | .hbm, ⟨28, _⟩ => ⟨S4096x8, .i32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x8, .f32⟩
  | .hbm, ⟨42, _⟩ => ⟨S4096x8, .f32⟩
  | .hbm, ⟨43, _⟩ => ⟨S_, .i32⟩
  | .hbm, ⟨44, _⟩ => ⟨S4096x8, .i32⟩
  | .hbm, ⟨45, _⟩ => ⟨S4096x8, .i1⟩
  | .hbm, ⟨46, _⟩ => ⟨S_, .i32⟩
  | .hbm, ⟨47, _⟩ => ⟨S4096x8, .i32⟩
  | .hbm, ⟨48, _⟩ => ⟨S4096x8, .i32⟩
  | .hbm, ⟨49, _⟩ => ⟨S4096x8, .i32⟩
  | .hbm, ⟨50, _⟩ => ⟨S4096x8x1, .i32⟩
  | .hbm, ⟨51, _⟩ => ⟨S1, .i32⟩
  | .hbm, ⟨52, _⟩ => ⟨S_, .i32⟩
  | .hbm, ⟨53, _⟩ => ⟨S4096x8x1, .i32⟩
  | .hbm, ⟨54, _⟩ => ⟨S4096x8x1, .i1⟩
  | .hbm, ⟨55, _⟩ => ⟨S1x1x1, .i32⟩
  | .hbm, ⟨56, _⟩ => ⟨S4096x8x1, .i32⟩
  | .hbm, ⟨57, _⟩ => ⟨S4096x8x1, .i1⟩
  | .hbm, ⟨58, _⟩ => ⟨S4096x8x1, .i1⟩
  | .hbm, ⟨59, _⟩ => ⟨S_, .i1⟩
  | .hbm, ⟨60, _⟩ => ⟨S4096x8, .i1⟩
  | .hbm, ⟨61, _⟩ => ⟨S4096x8x512, .f32⟩
  | .hbm, ⟨62, _⟩ => ⟨S4096x8x512, .i1⟩
  | .hbm, ⟨63, _⟩ => ⟨S_, .f32⟩
  | .hbm, ⟨64, _⟩ => ⟨S4096x8x512, .f32⟩
  | .hbm, ⟨65, _⟩ => ⟨S4096x8x512, .f32⟩
  | .hbm, ⟨66, _⟩ => ⟨S4096x8x1, .f32⟩
  | .hbm, ⟨67, _⟩ => ⟨S4096x8x512, .f32⟩
  | .hbm, ⟨68, _⟩ => ⟨S4096x8x512, .f32⟩
  | .hbm, ⟨69, _⟩ => ⟨S_, .f32⟩
  | .hbm, ⟨70, _⟩ => ⟨S4096x512, .f32⟩
  | .hbm, ⟨71, _⟩ => ⟨S4096x1024, .f32⟩
  | .hbm, ⟨72, _⟩ => ⟨S1024x512, .f32⟩
  | .hbm, ⟨73, _⟩ => ⟨S4096x512, .f32⟩
  | .hbm, ⟨74, _⟩ => ⟨S1x512, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .f32⟩
  | .hbm, ⟨79, _⟩ => ⟨S_, .f32⟩
  | .hbm, ⟨80, _⟩ => ⟨S4096x512, .f32⟩
  | .hbm, ⟨81, _⟩ => ⟨S4096x512, .f32⟩
  | .hbm, ⟨82, _⟩ => ⟨S_, .f32⟩
  | .hbm, ⟨83, _⟩ => ⟨S4096x512, .f32⟩
  | .hbm, ⟨84, _⟩ => ⟨S4096x512, .f32⟩
  | .hbm, ⟨85, _⟩ => ⟨S4096x512, .f32⟩
  | .hbm, ⟨86, _⟩ => ⟨S4096x512, .f32⟩
  | .hbm, ⟨87, _⟩ => ⟨S512x512, .f32⟩
  | .hbm, ⟨88, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_values : Ref sig .tc := ⟨.hbm, 27, rfl⟩
abbrev main_indices : Ref sig .tc := ⟨.hbm, 28, rfl⟩
abbrev main_cst_1 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_call2_cst : Ref sig .tc := ⟨.hbm, 63, rfl⟩
abbrev main_call2_v15 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_cst_4 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_5 : Ref sig .tc := ⟨.hbm, 79, rfl⟩
abbrev main_v36 : Ref sig .tc := ⟨.hbm, 80, rfl⟩
abbrev main_v37 : Ref sig .tc := ⟨.hbm, 81, rfl⟩
abbrev main_cst_6 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩

abbrev nD : Nat := 1
abbrev τ : Topo := Topo.v7x

variable {F : FTy → Type} [FloatOps F]
-- ==== Proof.Cases.lean ====
/- Which branches of the kernel body a grid point takes. The grid is 8 row blocks by 16 steps; a point `t` is at
   step `t % 16`. Each branch condition of the body is put in closed form over that step, and so is the fact that
   the output window is written only at step 15. -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.VecWindow
public import Idealize.ShloMosaic.Lib.Ring
public import Idealize.ShloMosaic.Lib.Tactic
public import Idealize.ShloMosaic.Lib.WordCmp

@[expose] public section

set_option Elab.async false

noncomputable section

namespace Cert.KernelIdeal.Recall

open Idealize.ShloMosaic Idealize.ShloMosaic.TcCoe Idealize.SL.Sem
open Cert.KernelIdeal.Gen

/-- The step is a store step: similarities and the copy of the patterns are written. -/
abbrev isStore (i : grid0.Coords) : Prop := k0_cond1 i = 1#1
/-- The first step of a row block: the table of the largest similarities is cleared. -/
abbrev isFirst (i : grid0.Coords) : Prop :=
  (Scalar.cmpi .ne (Scalar.extui (Scalar.cmpi .eq (BitVec.ofNat 32 (i 1).val) 0#32)) 0#32) = 1#1
/-- A fold step: the chunk stored one step before is folded into the table. -/
abbrev isFold (i : grid0.Coords) : Prop := k0_cond3 i = 1#1
/-- The step that folds the last chunk, finds the threshold, and starts the two sums. -/
abbrev isSelect (i : grid0.Coords) : Prop :=
  (Scalar.cmpi .ne (Scalar.extui (Scalar.cmpi .eq (BitVec.ofNat 32 (i 1).val) 8#32)) 0#32) = 1#1
/-- A sum step: the chunk's share of the two sums is computed. -/
abbrev isSum (i : grid0.Coords) : Prop := k0_cond5 i = 1#1
/-- A later sum step: the share is added to what is there. -/
abbrev isAdd (i : grid0.Coords) : Prop :=
  (Scalar.cmpi .ne (Scalar.extui (Scalar.cmpi .sgt (BitVec.ofNat 32 (i 1).val) 8#32)) 0#32) = 1#1
/-- The last step: the output block is written. -/
abbrev isLast (i : grid0.Coords) : Prop := k0_cond8 i = 1#1

/-- The second grid coordinate of a point is its step. -/
theorem step_val (t : Fin cfg0.N) : (grid0.coords t 1).val = t.val % 16 := by
  have e : (grid0.coords t 1).val = t.val / 1 % 16 := Pipeline.Grid.coords_val t 1 (by decide) rfl
  rwa [Nat.div_one] at e

theorem isStore_iff : ∀ t : Fin cfg0.N, isStore (grid0.coords t) ↔ t.val % 16 < 8 :=
  (by decide +kernel : ∀ t : Fin grid0.N, isStore (grid0.coords t) ↔ t.val % 16 < 8)
theorem isFirst_iff : ∀ t : Fin cfg0.N, isFirst (grid0.coords t) ↔ t.val % 16 = 0 :=
  (by decide +kernel : ∀ t : Fin grid0.N, isFirst (grid0.coords t) ↔ t.val % 16 = 0)
theorem isFold_iff : ∀ t : Fin cfg0.N, isFold (grid0.coords t) ↔ (1 ≤ t.val % 16 ∧ t.val % 16 < 8) :=
  (by decide +kernel : ∀ t : Fin grid0.N, isFold (grid0.coords t) ↔ (1 ≤ t.val % 16 ∧ t.val % 16 < 8))
theorem isSelect_iff : ∀ t : Fin cfg0.N, isSelect (grid0.coords t) ↔ t.val % 16 = 8 :=
  (by decide +kernel : ∀ t : Fin grid0.N, isSelect (grid0.coords t) ↔ t.val % 16 = 8)
theorem isSum_iff : ∀ t : Fin cfg0.N, isSum (grid0.coords t) ↔ 8 ≤ t.val % 16 :=
  (by decide +kernel : ∀ t : Fin grid0.N, isSum (grid0.coords t) ↔ 8 ≤ t.val % 16)
theorem isAdd_iff : ∀ t : Fin cfg0.N, isAdd (grid0.coords t) ↔ 9 ≤ t.val % 16 :=
  (by decide +kernel : ∀ t : Fin grid0.N, isAdd (grid0.coords t) ↔ 9 ≤ t.val % 16)
theorem isLast_iff : ∀ t : Fin cfg0.N, isLast (grid0.coords t) ↔ t.val % 16 = 15 :=
  (by decide +kernel : ∀ t : Fin grid0.N, isLast (grid0.coords t) ↔ t.val % 16 = 15)

/-- At a fold step the second coordinate is positive, and the chunk read is the one stored a step before. -/
theorem fold_pos : ∀ i : grid0.Coords, isFold i → 1 ≤ (i 1).val := by decide +kernel
theorem fold_off : ∀ i : grid0.Coords, isFold i → k0_off3 i = ![(i 1).val - 1, 0, 0] := by decide +kernel
/-- The same offsets at any step, the word arithmetic written out. -/
theorem fold_off_word : ∀ i : grid0.Coords, k0_off3 i = ![((i 1).val + 4294967295) % 4294967296, 0, 0] := by decide +kernel
instance foldClosed (i : grid0.Coords) : ClosedOff (k0_off3 i) := ⟨![((i 1).val + 4294967295) % 4294967296, 0, 0], fold_off_word i⟩
/-- At a sum step the chunk read is the one whose number is eight less than the step. -/
theorem sum_off : ∀ i : grid0.Coords, isSum i → k0_off4 i = ![(i 1).val - 8, 0, 0] := by decide +kernel
theorem sum_off' : ∀ i : grid0.Coords, isSum i → k0_off5 i = ![(i 1).val - 8, 0, 0] := by decide +kernel

/-- Before the last step the output window is idle. -/
theorem out_idle : ∀ t : Fin cfg0.N, t.val % 16 ≠ 15 → cfg0.idle 6 (grid0.coords t) = true :=
  (by decide +kernel : ∀ t : Fin grid0.N, t.val % 16 ≠ 15 → cfg0.idle 6 (grid0.coords t) = true)
/-- At the last step it is written. -/
theorem out_live : ∀ t : Fin cfg0.N, t.val % 16 = 15 → cfg0.idle 6 (grid0.coords t) = false :=
  (by decide +kernel : ∀ t : Fin grid0.N, t.val % 16 = 15 → cfg0.idle 6 (grid0.coords t) = false)
/-- Before the last step the output block is not sent back. -/
theorem out_stay (t : Fin cfg0.N) (h : t.val % 16 ≠ 15) : (cfg0.win 6).flush t = false := by
  cases hf : (cfg0.win 6).flush t with
  | false => rfl
  | true => exact absurd ((flush0_6 t).mp hf) h

end Cert.KernelIdeal.Recall

end
-- ==== Proof.State.lean ====
/- What the kernel body leaves in its scratch buffers, as functions of what it found there: the tables of the four
   largest similarities per lane before and after a fold, the threshold, and the two sums. Each is the printed
   arithmetic on whole buffers; what it means number by number is said in later modules. -/
module

public import proofs.«01_k».proof.Proof.Cases

@[expose] public section

noncomputable section

namespace Cert.KernelIdeal.Recall

open Idealize.ShloMosaic Idealize.ShloMosaic.TcCoe Idealize.SL.Sem
open Cert.KernelIdeal.Gen

variable {F : FTy → Type} [FloatOps F]

/-- A load at a unit-stride rectangle reads that window of what the buffer holds. -/
theorem load_window {sig : RefSig} {κ : Kind} {sp : Space} {s : Shape} {e : EltTy} {Val : EltTy → Type}
    (v : View sig κ sp s e) (f : v.ty.Contents Val) {off size : Fin s.rank → ℕ} (inb : ∀ a, off a + size a ≤ s.size a) :
    v.readAt Val (Rect.unit off size inb).toLoadRect f = VecWindow.window (v.read Val f) off size inb := rfl

/-- The window of a whole two-axis buffer is the buffer. -/
theorem window_all2 {α : Type} {m n : ℕ} (x : (⟨2, ![m, n]⟩ : Shape).Idx → α)
    (inb : ∀ a, (![0, 0] : Fin 2 → ℕ) a + (![m, n] : Fin 2 → ℕ) a ≤ (⟨2, ![m, n]⟩ : Shape).size a) :
    VecWindow.window (s := ⟨2, ![m, n]⟩) x ![0, 0] ![m, n] inb = x := by
  funext y
  refine congrArg x (funext fun a => Fin.ext ?_)
  show (![0, 0] : Fin 2 → ℕ) a + 1 * (y a).val = (y a).val
  fin_cases a <;> simp

/-- A store over a whole two-axis buffer leaves the payload. -/
theorem put_all2 {α : Type} {m n : ℕ} (x w : (⟨2, ![m, n]⟩ : Shape).Idx → α) :
    VecWindow.put (s := ⟨2, ![m, n]⟩) x ![0, 0] ![m, n] w = w := by
  funext y
  have h : ∀ a, (![0, 0] : Fin 2 → ℕ) a ≤ (y a).val ∧ (y a).val < (![0, 0] : Fin 2 → ℕ) a + (![m, n] : Fin 2 → ℕ) a := fun a => by
    have := (y a).isLt
    fin_cases a <;> simpa using this
  refine (dif_pos h).trans (congrArg w (funext fun a => Fin.ext ?_))
  show (y a).val - (![0, 0] : Fin 2 → ℕ) a = (y a).val
  fin_cases a <;> simp

/-- A store over a whole three-axis buffer leaves the payload. -/
theorem put_all3 {α : Type} {l m n : ℕ} (x w : (⟨3, ![l, m, n]⟩ : Shape).Idx → α) :
    VecWindow.put (s := ⟨3, ![l, m, n]⟩) x ![0, 0, 0] ![l, m, n] w = w := by
  funext y
  have h : ∀ a, (![0, 0, 0] : Fin 3 → ℕ) a ≤ (y a).val ∧ (y a).val < (![0, 0, 0] : Fin 3 → ℕ) a + (![l, m, n] : Fin 3 → ℕ) a := fun a => by
    have := (y a).isLt
    fin_cases a <;> simpa using this
  refine (dif_pos h).trans (congrArg w (funext fun a => Fin.ext ?_))
  show (y a).val - (![0, 0, 0] : Fin 3 → ℕ) a = (y a).val
  fin_cases a <;> simp

/-- A store at a unit-stride rectangle puts its payload over that window. -/
theorem store_put {sig : RefSig} {κ : Kind} {sp : Space} {s : Shape} {e : EltTy} {Val : EltTy → Type}
    (v : View sig κ sp s e) (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

/-- A load stated over the stores alone reads the window of what they leave. -/
theorem load_stores {sig : RefSig} {κ : Kind} {sp : Space} {s : Shape} {e : EltTy} {Val : EltTy → Type} [∀ e, Nonempty (Val e)]
    (v : View sig κ sp s e) (L : List (View.Piece Val s e)) {off size : Fin s.rank → ℕ} (inb : ∀ a, off a + size a ≤ s.size a) :
    v.readCov L (Rect.unit off size inb).toLoadRect = VecWindow.window (v.read Val (v.writes Val v.junk L)) off size inb := rfl

/-- Row `k` of the table of largest similarities. -/
def tableRow0 (g : Vec F S4x512x128 .f32) : Vec F S1x512x128 .f32 := VecWindow.window g ![0, 0, 0] S1x512x128.size inb_S4x512x128_S1x512x128_0_0_0
def tableRow1 (g : Vec F S4x512x128 .f32) : Vec F S1x512x128 .f32 := VecWindow.window g ![1, 0, 0] S1x512x128.size inb_S4x512x128_S1x512x128_1_0_0
def tableRow2 (g : Vec F S4x512x128 .f32) : Vec F S1x512x128 .f32 := VecWindow.window g ![2, 0, 0] S1x512x128.size inb_S4x512x128_S1x512x128_2_0_0
def tableRow3 (g : Vec F S4x512x128 .f32) : Vec F S1x512x128 .f32 := VecWindow.window g ![3, 0, 0] S1x512x128.size inb_S4x512x128_S1x512x128_3_0_0

/-- The table with its four rows replaced. -/
def tableOf (g : Vec F S4x512x128 .f32) (a b c d : Vec F S1x512x128 .f32) : Vec F S4x512x128 .f32 :=
  VecWindow.put (VecWindow.put (VecWindow.put (VecWindow.put g ![0, 0, 0] S1x512x128.size a) ![1, 0, 0] S1x512x128.size b)
    ![2, 0, 0] S1x512x128.size c) ![3, 0, 0] S1x512x128.size d

/-- Each row of the rewritten table is the row written. -/
theorem tableRow0_tableOf (g : Vec F S4x512x128 .f32) (a b c d : Vec F S1x512x128 .f32) : tableRow0 (tableOf g a b c d) = a := by
  unfold tableRow0 tableOf
  rw [VecWindow.window_put_of_disjoint _ _ _ _ _ _ _ 0 (.inl (by decide)), VecWindow.window_put_of_disjoint _ _ _ _ _ _ _ 0 (.inl (by decide)),
    VecWindow.window_put_of_disjoint _ _ _ _ _ _ _ 0 (.inl (by decide)), VecWindow.window_put_same]
theorem tableRow1_tableOf (g : Vec F S4x512x128 .f32) (a b c d : Vec F S1x512x128 .f32) : tableRow1 (tableOf g a b c d) = b := by
  unfold tableRow1 tableOf
  rw [VecWindow.window_put_of_disjoint _ _ _ _ _ _ _ 0 (.inl (by decide)), VecWindow.window_put_of_disjoint _ _ _ _ _ _ _ 0 (.inl (by decide)),
    VecWindow.window_put_same]
theorem tableRow2_tableOf (g : Vec F S4x512x128 .f32) (a b c d : Vec F S1x512x128 .f32) : tableRow2 (tableOf g a b c d) = c := by
  unfold tableRow2 tableOf
  rw [VecWindow.window_put_of_disjoint _ _ _ _ _ _ _ 0 (.inl (by decide)), VecWindow.window_put_same]
theorem tableRow3_tableOf (g : Vec F S4x512x128 .f32) (a b c d : Vec F S1x512x128 .f32) : tableRow3 (tableOf g a b c d) = d := by
  unfold tableRow3 tableOf
  rw [VecWindow.window_put_same]

/-! ## The fold of a chunk in the store steps: the four rows it writes -/

section Fold
variable (sb : Vec F S1x512x1024 .f32) (a b c d : Vec F S1x512x128 .f32)

def foldRow0 : Vec F S1x512x128 .f32 :=
  k0_pay4 (k0_pay70 (k0_pay17 sb) (k0_pay34 sb a) (k0_pay35 sb) (k0_pay36 sb a)) (k0_pay71 (k0_pay17 sb))
    (k0_pay72 (k0_pay17 sb) (k0_pay34 sb a) (k0_pay35 sb) (k0_pay36 sb a))
def foldRow1 : Vec F S1x512x128 .f32 :=
  k0_pay5 (k0_pay69 (k0_pay17 sb) (k0_pay33 sb a b) (k0_pay34 sb a) (k0_pay35 sb) (k0_pay36 sb a) (k0_pay37 sb a b))
    (k0_pay70 (k0_pay17 sb) (k0_pay34 sb a) (k0_pay35 sb) (k0_pay36 sb a)) (k0_pay71 (k0_pay17 sb))
    (k0_pay72 (k0_pay17 sb) (k0_pay34 sb a) (k0_pay35 sb) (k0_pay36 sb a))
    (k0_pay73 (k0_pay17 sb) (k0_pay33 sb a b) (k0_pay34 sb a) (k0_pay35 sb) (k0_pay36 sb a) (k0_pay37 sb a b))
def foldRow2 : Vec F S1x512x128 .f32 :=
  k0_pay6 (k0_pay76 (k0_pay17 sb) (k0_pay33 sb a b) (k0_pay34 sb a) (k0_pay35 sb) (k0_pay36 sb a) (k0_pay37 sb a b) (k0_pay40 sb a b c))
def foldRow3 : Vec F S1x512x128 .f32 :=
  k0_pay7 (k0_pay75 (k0_pay17 sb) (k0_pay33 sb a b) (k0_pay34 sb a) (k0_pay35 sb) (k0_pay36 sb a) (k0_pay37 sb a b) (k0_pay39 sb a b c d) (k0_pay40 sb a b c))

/-! ## The fold of the last chunk, in the selecting step -/

def lastRow0 : Vec F S1x512x128 .f32 :=
  k0_pay138 (k0_pay130 (k0_pay77 sb) (k0_pay94 sb a) (k0_pay95 sb) (k0_pay96 sb a)) (k0_pay131 (k0_pay77 sb))
    (k0_pay132 (k0_pay77 sb) (k0_pay94 sb a) (k0_pay95 sb) (k0_pay96 sb a))
def lastRow1 : Vec F S1x512x128 .f32 :=
  k0_pay139 (k0_pay137 (k0_pay77 sb) (k0_pay94 sb a) (k0_pay95 sb) (k0_pay96 sb a) (k0_pay101 sb a b))
def lastRow2 : Vec F S1x512x128 .f32 :=
  k0_pay140 (k0_pay136 (k0_pay77 sb) (k0_pay94 sb a) (k0_pay95 sb) (k0_pay96 sb a) (k0_pay100 sb a b c) (k0_pay101 sb a b))
def lastRow3 : Vec F S1x512x128 .f32 :=
  k0_pay141 (k0_pay135 (k0_pay77 sb) (k0_pay94 sb a) (k0_pay95 sb) (k0_pay96 sb a) (k0_pay99 sb a b c d) (k0_pay100 sb a b c) (k0_pay101 sb a b))

end Fold

/-- The table after a chunk is folded in, in a store step. -/
def foldTable (sb : Vec F S1x512x1024 .f32) (g : Vec F S4x512x128 .f32) : Vec F S4x512x128 .f32 :=
  tableOf g (foldRow0 sb (tableRow0 g)) (foldRow1 sb (tableRow0 g) (tableRow1 g))
    (foldRow2 sb (tableRow0 g) (tableRow1 g) (tableRow2 g)) (foldRow3 sb (tableRow0 g) (tableRow1 g) (tableRow2 g) (tableRow3 g))

/-- The table after the last chunk is folded in. -/
def lastTable (sb : Vec F S1x512x1024 .f32) (g : Vec F S4x512x128 .f32) : Vec F S4x512x128 .f32 :=
  tableOf g (lastRow0 sb (tableRow0 g)) (lastRow1 sb (tableRow0 g) (tableRow1 g))
    (lastRow2 sb (tableRow0 g) (tableRow1 g) (tableRow2 g)) (lastRow3 sb (tableRow0 g) (tableRow1 g) (tableRow2 g) (tableRow3 g))

/-- The threshold read off the finished table: eight rounds of taking the largest entry and removing it. -/
def threshold (g : Vec F S4x512x128 .f32) : Vec F S512x1 .f32 :=
  k0_pay8 (k0_pay151 (Scalar.ofBits .f32 0xFF800000#32) (k0_pay147 (tableRow0 g) (tableRow1 g)) (k0_pay148 (tableRow0 g) (tableRow1 g) (tableRow2 g))
    (k0_pay149 (tableRow0 g) (tableRow2 g) (tableRow3 g)) (k0_pay150 (Scalar.ofBits .f32 0xFF800000#32) (tableRow0 g) (tableRow3 g)))

/-- The threshold depends only on the rows written, not on what lay under them. -/
theorem threshold_last (g' : Vec F S4x512x128 .f32) (sb : Vec F S1x512x1024 .f32) (g : Vec F S4x512x128 .f32) :
    threshold (tableOf g' (lastRow0 sb (tableRow0 g)) (lastRow1 sb (tableRow0 g) (tableRow1 g))
      (lastRow2 sb (tableRow0 g) (tableRow1 g) (tableRow2 g)) (lastRow3 sb (tableRow0 g) (tableRow1 g) (tableRow2 g) (tableRow3 g)))
      = threshold (lastTable sb g) := by
  simp only [threshold, lastTable, tableRow0_tableOf, tableRow1_tableOf, tableRow2_tableOf, tableRow3_tableOf]

/-- The chunk of similarities folded at a fold step. -/
def foldChunk (i : grid0.Coords) (h : isFold i) (s : Vec F S8x512x1024 .f32) : Vec F S1x512x1024 .f32 :=
  VecWindow.window s (k0_off3 i) S1x512x1024.size (k0_off3_inb i h)
/-- The last chunk of similarities. -/
def lastChunk (s : Vec F S8x512x1024 .f32) : Vec F S1x512x1024 .f32 :=
  VecWindow.window s ![7, 0, 0] S1x512x1024.size inb_S8x512x1024_S1x512x1024_7_0_0
/-- The chunk of similarities read at a sum step. -/
def sumChunk (i : grid0.Coords) (h : isSum i) (s : Vec F S8x512x1024 .f32) : Vec F S1x512x1024 .f32 :=
  VecWindow.window s (k0_off4 i) S1x512x1024.size (k0_off4_inb i h)
/-- The chunk of patterns read at a sum step. -/
def sumPatterns (i : grid0.Coords) (h : isSum i) (s : Vec F S8x1024x512 .bf16) : Vec F S1x1024x512 .bf16 :=
  VecWindow.window s (k0_off5 i) S1x1024x512.size (k0_off5_inb i h)

end Cert.KernelIdeal.Recall

end
-- ==== Proof.Invariant.lean ====
/- What the kernel's scratch buffers hold at each step of a row block, as functions of the block of cue rows and of the
   eight chunks of patterns: the similarities and the pattern copies chunk by chunk, the table of the largest similarities,
   the threshold, and the two running sums. The statement `Held` is what holds before a step; each step carries it to
   the next. -/
module

public import proofs.«01_k».proof.Proof.State

@[expose] public section

set_option Elab.async false

noncomputable section

namespace Cert.KernelIdeal.Recall

open Idealize.ShloMosaic Idealize.ShloMosaic.TcCoe Idealize.SL.Sem
open Cert.KernelIdeal.Gen

variable {F : FTy → Type} [FloatOps F]

section Values
variable (cue : Vec F S512x512 .f32) (pat : ℕ → Vec F S1024x512 .f32)

/-- The similarities of the block's cue rows with chunk `k` of the patterns. -/
def simOf (k : ℕ) : Vec F S1x512x1024 .f32 := k0_pay1 cue (pat k)
/-- The stored copy of chunk `k` of the patterns. -/
def patOf (k : ℕ) : Vec F S1x1024x512 .bf16 := k0_pay2 (pat k)
/-- The table after the first `k` chunks are folded in. -/
def tableAt : ℕ → Vec F S4x512x128 .f32
  | 0 => k0_pay3
  | k + 1 => foldTable (simOf cue pat k) (tableAt k)
/-- The finished table: all eight chunks. -/
def tableEnd : Vec F S4x512x128 .f32 := lastTable (simOf cue pat 7) (tableAt cue pat 7)
/-- The threshold of the row block. -/
def thrOf : Vec F S512x1 .f32 := threshold (tableEnd cue pat)
/-- The weighted sum of patterns over the chunks up to `k`. -/
def accAt : ℕ → Vec F S512x512 .f32
  | 0 => k0_pay12 (simOf cue pat 0) (thrOf cue pat) (patOf pat 0)
  | k + 1 => k0_pay14 (simOf cue pat (k + 1)) (thrOf cue pat) (patOf pat (k + 1)) (accAt k)
/-- The sum of weights over the chunks up to `k`. -/
def weightAt : ℕ → Vec F S512x1 .f32
  | 0 => k0_pay13 (simOf cue pat 0) (thrOf cue pat)
  | k + 1 => k0_pay15 (simOf cue pat (k + 1)) (thrOf cue pat) (weightAt k)
/-- The output block. -/
def outOf (wgc wgr wro : Vec F S512x512 .f32) (bias : Vec F S1x512 .f32) : Vec F S512x512 .f32 :=
  k0_pay16 cue (accAt cue pat 7) (weightAt cue pat 7) wgc wgr bias wro

end Values

/-- The first `n` chunks (of extent one along the first axis) of the buffer `x` are those of `f`. -/
def Chunks {α : Type} {a b : ℕ} (x : (⟨3, ![8, a, b]⟩ : Shape).Idx → α) (n : ℕ) (f : ℕ → (⟨3, ![1, a, b]⟩ : Shape).Idx → α) : Prop :=
  ∀ (k : ℕ) (inb : ∀ d, (![k, 0, 0] : Fin 3 → ℕ) d + (![1, a, b] : Fin 3 → ℕ) d ≤ (⟨3, ![8, a, b]⟩ : Shape).size d), k < n →
    VecWindow.window x ![k, 0, 0] ![1, a, b] inb = f k

/-- Storing chunk `n` of `f` makes one more chunk hold. -/
theorem Chunks.put {α : Type} {a b : ℕ} {x : (⟨3, ![8, a, b]⟩ : Shape).Idx → α} {n : ℕ} {f : ℕ → (⟨3, ![1, a, b]⟩ : Shape).Idx → α}
    (h : Chunks x n f) : Chunks (VecWindow.put x ![n, 0, 0] ![1, a, b] (f n)) (n + 1) f := by
  intro k inb hk
  by_cases e : k = n
  · subst e
    exact VecWindow.window_put_same x _ _ inb (f k)
  · rw [VecWindow.window_put_of_disjoint x _ _ _ _ inb _ (0 : Fin 3) (.inl (by show k + 1 ≤ n; omega))]
    exact h k inb (by omega)

/-- What the scratch buffers hold before step `j` of a row block. Nothing is said before the first step. -/
structure Held (cue : Vec F S512x512 .f32) (pat : ℕ → Vec F S1024x512 .f32) (j : ℕ)
    (s : Vec F S8x512x1024 .f32) (p : Vec F S8x1024x512 .bf16) (g : Vec F S4x512x128 .f32)
    (acc : Vec F S512x512 .f32) (t : Vec F S512x1 .f32) (z : Vec F S512x1 .f32) : Prop where
  sims : Chunks s (min j 8) (simOf cue pat)
  pats : Chunks p (min j 8) (patOf pat)
  table : 1 ≤ j → j ≤ 8 → g = tableAt cue pat (j - 1)
  thr : 9 ≤ j → t = thrOf cue pat
  acc : 9 ≤ j → acc = accAt cue pat (j - 9)
  weight : 9 ≤ j → z = weightAt cue pat (j - 9)

section Steps
variable {cue : Vec F S512x512 .f32} {pat : ℕ → Vec F S1024x512 .f32} {i : grid0.Coords}
  {s : Vec F S8x512x1024 .f32} {p : Vec F S8x1024x512 .bf16} {g : Vec F S4x512x128 .f32}
  {acc : Vec F S512x512 .f32} {t : Vec F S512x1 .f32} {z : Vec F S512x1 .f32}

/-- At a row block's start nothing is asked of the buffers. -/
theorem Held.start : Held cue pat 0 s p g acc t z :=
  ⟨fun _ _ h => absurd h (Nat.not_lt_zero _), fun _ _ h => absurd h (Nat.not_lt_zero _), fun h => absurd h (by omega),
    fun h => absurd h (by omega), fun h => absurd h (by omega), fun h => absurd h (by omega)⟩

/-- The chunk a fold step reads. -/
theorem foldChunk_held (hi : isFold i) {x : Vec F S8x512x1024 .f32} {n : ℕ} (hn : (i 1).val ≤ n) (hs : Chunks x n (simOf cue pat)) :
    foldChunk i hi x = simOf cue pat ((i 1).val - 1) := by
  have e := fold_off i hi
  have hp := fold_pos i hi
  have key : ∀ (off : Fin 3 → ℕ) (inb : ∀ a, off a + S1x512x1024.size a ≤ S8x512x1024.size a), off = ![(i 1).val - 1, 0, 0] →
      VecWindow.window x off S1x512x1024.size inb = simOf cue pat ((i 1).val - 1) := by
    intro off inb ho; subst ho
    exact hs _ inb (by omega)
  exact key _ _ e

/-- The chunk a sum step reads. -/
theorem sumChunk_held (hi : isSum i) (hs : Chunks s 8 (simOf cue pat)) (h8 : (i 1).val - 8 < 8) :
    sumChunk i hi s = simOf cue pat ((i 1).val - 8) := by
  have key : ∀ (off : Fin 3 → ℕ) (inb : ∀ a, off a + S1x512x1024.size a ≤ S8x512x1024.size a), off = ![(i 1).val - 8, 0, 0] →
      VecWindow.window s off S1x512x1024.size inb = simOf cue pat ((i 1).val - 8) := by
    intro off inb ho; subst ho
    exact hs _ inb h8
  exact key _ _ (sum_off i hi)

/-- The chunk of patterns a sum step reads. -/
theorem sumPatterns_held (hi : isSum i) (hs : Chunks p 8 (patOf pat)) (h8 : (i 1).val - 8 < 8) :
    sumPatterns i hi p = patOf pat ((i 1).val - 8) := by
  have key : ∀ (off : Fin 3 → ℕ) (inb : ∀ a, off a + S1x1024x512.size a ≤ S8x1024x512.size a), off = ![(i 1).val - 8, 0, 0] →
      VecWindow.window p off S1x1024x512.size inb = patOf pat ((i 1).val - 8) := by
    intro off inb ho; subst ho
    exact hs _ inb h8
  exact key _ _ (sum_off' i hi)

/-- The stores of step `j < 8`. -/
theorem chunks_store (hj : (i 1).val < 8) (hs : Chunks s (min (i 1).val 8) (simOf cue pat)) :
    Chunks (VecWindow.put s (k0_off1 i) S1x512x1024.size (k0_pay1 cue (pat (i 1).val))) ((i 1).val + 1) (simOf cue pat) := by
  rw [k0_off1_eq i, Nat.min_eq_left (by omega)] at *
  exact hs.put
theorem chunks_store' (hj : (i 1).val < 8) (hs : Chunks p (min (i 1).val 8) (patOf pat)) :
    Chunks (VecWindow.put p (k0_off2 i) S1x1024x512.size (k0_pay2 (pat (i 1).val))) ((i 1).val + 1) (patOf pat) := by
  rw [k0_off2_eq i, Nat.min_eq_left (by omega)] at *
  exact hs.put

/-- The first step. -/
theorem Held.first (h : Held cue pat (i 1).val s p g acc t z) (h0 : (i 1).val = 0) :
    Held cue pat ((i 1).val + 1) (VecWindow.put s (k0_off1 i) S1x512x1024.size (k0_pay1 cue (pat (i 1).val)))
      (VecWindow.put p (k0_off2 i) S1x1024x512.size (k0_pay2 (pat (i 1).val))) k0_pay3 acc t z where
  sims := by rw [Nat.min_eq_left (by omega)]; exact chunks_store (by omega) h.sims
  pats := by rw [Nat.min_eq_left (by omega)]; exact chunks_store' (by omega) h.pats
  table _ _ := by rw [h0]; rfl
  thr _ := by omega
  acc _ := by omega
  weight _ := by omega

/-- A fold step. -/
theorem Held.fold (h : Held cue pat (i 1).val s p g acc t z) (hi : isFold i) (h8 : (i 1).val < 8) :
    Held cue pat ((i 1).val + 1) (VecWindow.put s (k0_off1 i) S1x512x1024.size (k0_pay1 cue (pat (i 1).val)))
      (VecWindow.put p (k0_off2 i) S1x1024x512.size (k0_pay2 (pat (i 1).val)))
      (foldTable (foldChunk i hi (VecWindow.put s (k0_off1 i) S1x512x1024.size (k0_pay1 cue (pat (i 1).val)))) g) acc t z where
  sims := by rw [Nat.min_eq_left (by omega)]; exact chunks_store (by omega) h.sims
  pats := by rw [Nat.min_eq_left (by omega)]; exact chunks_store' (by omega) h.pats
  table _ _ := by
    have hp := fold_pos i hi
    rw [foldChunk_held hi (Nat.le_succ _) (chunks_store h8 h.sims), h.table hp (by omega)]
    obtain ⟨n, hn⟩ : ∃ n, (i 1).val = n + 1 := ⟨(i 1).val - 1, by omega⟩
    rw [hn]; rfl
  thr _ := by omega
  acc _ := by omega
  weight _ := by omega

/-- The last chunk, once all are stored. -/
theorem lastChunk_held (hs : Chunks s 8 (simOf cue pat)) : lastChunk s = simOf cue pat 7 := hs 7 _ (by omega)

/-- The table the selecting step finishes. -/
theorem Held.lastTable (h : Held cue pat (i 1).val s p g acc t z) (h8 : (i 1).val = 8) :
    lastTable (lastChunk s) g = tableEnd cue pat := by
  have hs := h.sims
  rw [h8] at hs
  rw [lastChunk_held hs, h.table (by omega) (by omega), h8]
  rfl

/-- The selecting step. -/
theorem Held.select (h : Held cue pat (i 1).val s p g acc t z) (hi : isSum i) (h8 : (i 1).val = 8) :
    Held cue pat ((i 1).val + 1) s p (Recall.lastTable (lastChunk s) g)
      (k0_pay12 (sumChunk i hi s) (threshold (Recall.lastTable (lastChunk s) g)) (sumPatterns i hi p))
      (threshold (Recall.lastTable (lastChunk s) g))
      (k0_pay13 (sumChunk i hi s) (threshold (Recall.lastTable (lastChunk s) g))) := by
  have hs := h.sims
  have hp := h.pats
  rw [h8] at hs hp
  rw [h.lastTable h8, sumChunk_held hi hs (by omega), sumPatterns_held hi hp (by omega), h8]
  exact ⟨hs, hp, fun _ h => absurd h (by omega), fun _ => rfl, fun _ => rfl, fun _ => rfl⟩

/-- A later sum step. -/
theorem Held.add (h : Held cue pat (i 1).val s p g acc t z) (hi : isSum i) (h9 : 9 ≤ (i 1).val) (h16 : (i 1).val < 16) :
    Held cue pat ((i 1).val + 1) s p g
      (k0_pay14 (sumChunk i hi s) t (sumPatterns i hi p) acc) t (k0_pay15 (sumChunk i hi s) t z) := by
  have hs := h.sims
  have hp := h.pats
  rw [Nat.min_eq_right (by omega)] at hs hp
  rw [sumChunk_held hi hs (by omega), sumPatterns_held hi hp (by omega), h.thr h9, h.acc h9, h.weight h9]
  obtain ⟨n, hn⟩ : ∃ n, (i 1).val = n + 9 := ⟨(i 1).val - 9, by omega⟩
  have e1 : (i 1).val - 8 = n + 1 := by omega
  have e2 : (i 1).val - 9 = n := by omega
  have e3 : (i 1).val + 1 - 9 = n + 1 := by omega
  rw [e1, e2]
  refine ⟨?_, ?_, fun _ h => absurd h (by omega), fun _ => rfl, fun _ => ?_, fun _ => ?_⟩
  · rw [Nat.min_eq_right (by omega)]; exact hs
  · rw [Nat.min_eq_right (by omega)]; exact hp
  · rw [e3]; rfl
  · rw [e3]; rfl

/-- The output block of the last step. -/
theorem Held.out (h : Held cue pat (i 1).val s p g acc t z) (hi : isSum i) (h15 : (i 1).val = 15)
    (wgc wgr wro : Vec F S512x512 .f32) (bias : Vec F S1x512 .f32) :
    k0_pay16 cue (k0_pay14 (sumChunk i hi s) t (sumPatterns i hi p) acc) (k0_pay15 (sumChunk i hi s) t z) wgc wgr bias wro
      = outOf cue pat wgc wgr wro bias := by
  have h' := h.add hi (by omega) (by omega)
  have ea := h'.acc (by omega)
  have ez := h'.weight (by omega)
  rw [h15] at ea ez
  rw [ea, ez]
  rfl

end Steps

end Cert.KernelIdeal.Recall

end
-- ==== Proof.Blocks.lean ====
/- The blocks of the arrays that a grid point reads, in closed form: the cue block of point `t` depends only on its row
   block `t / 16`, the pattern chunk only on its step, and the weights and the bias are the same at every point. -/
module

public import proofs.«01_k».proof.Proof.Cases

@[expose] public section

set_option Elab.async false

noncomputable section

namespace Cert.KernelIdeal.Recall

open Idealize.ShloMosaic Idealize.ShloMosaic.TcCoe Idealize.SL.Sem
open Cert.KernelIdeal.Gen

variable {F : FTy → Type} [FloatOps F]
variable (m : (ℓ : Loc nD τ sig) → Buf (Elt F) ℓ)

/-- Row block `b` of the cues: rows `512 b` to `512 b + 511`. -/
def cueBlock (c : Dev nD) (b : ℕ) : Vec F S512x512 .f32 := fun y =>
  V m c main_arg0 (fun a => match a with
    | ⟨0, _⟩ => ⟨(512 * b + (y 0).val) % 4096, Nat.mod_lt _ (by decide)⟩
    | ⟨1, _⟩ => ⟨(y 1).val, (y 1).isLt⟩)
/-- Chunk `k` of the patterns: rows `1024 k` to `1024 k + 1023`. -/
def patChunk (c : Dev nD) (k : ℕ) : Vec F S1024x512 .f32 := fun y =>
  V m c main_arg1 (fun a => match a with
    | ⟨0, _⟩ => ⟨(1024 * k + (y 0).val) % 8192, Nat.mod_lt _ (by decide)⟩
    | ⟨1, _⟩ => ⟨(y 1).val, (y 1).isLt⟩)

theorem index0 : ∀ t : Fin cfg0.N, win0_0.index t (0 : Fin 2) = t.val / 16 ∧ win0_0.index t (1 : Fin 2) = 0 :=
  (by decide +kernel : ∀ t : Fin grid0.N, _)
theorem index1 : ∀ t : Fin cfg0.N, win0_1.index t (0 : Fin 2) = min (t.val % 16) 7 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)

/-- The cue block of a point is its row block's. -/
theorem block0 (c : Dev nD) (t : Fin cfg0.N) : iblk m c 0 t = cueBlock m c (t.val / 16) := by
  have hN : t.val < 128 := lt_of_lt_of_eq t.isLt N_0
  obtain ⟨e0, e1⟩ := index0 t
  funext y
  have hy0 : (y 0).val < 512 := (y 0).isLt
  show V m c main_arg0 (((cfg0.win 0).blk t).view.emb y) = V m c main_arg0 _
  congr 1
  funext a; apply Fin.ext
  match a with
  | ⟨0, _⟩ =>
    show win0_0.index t (0 : Fin 2) * 512 + 1 * (y 0).val = (512 * (t.val / 16) + (y 0).val) % 4096
    rw [e0]; omega
  | ⟨1, _⟩ =>
    show win0_0.index t (1 : Fin 2) * 512 + 1 * (y 1).val = (y 1).val
    rw [e1]; omega

/-- The pattern chunk of a store step is the one of its number. -/
theorem block1 (c : Dev nD) (t : Fin cfg0.N) (h : t.val % 16 < 8) : iblk m c 1 t = patChunk m c (t.val % 16) := by
  obtain ⟨e0, e1⟩ := index1 t
  funext y
  have hy0 : (y 0).val < 1024 := (y 0).isLt
  show V m c main_arg1 (((cfg0.win 1).blk t).view.emb y) = V m c main_arg1 _
  congr 1
  funext a; apply Fin.ext
  match a with
  | ⟨0, _⟩ =>
    show win0_1.index t (0 : Fin 2) * 1024 + 1 * (y 0).val = (1024 * (t.val % 16) + (y 0).val) % 8192
    rw [e0]; omega
  | ⟨1, _⟩ =>
    show win0_1.index t (1 : Fin 2) * 512 + 1 * (y 1).val = (y 1).val
    rw [e1]; omega

/-- The two halves of the gate weights, the readout weights and the bias, the same at every point. -/
theorem block2 (c : Dev nD) (t : Fin cfg0.N) : iblk m c 2 t = V m c main_v1 := by
  obtain ⟨e0, e1⟩ := index2 t
  funext y
  show V m c main_v1 (((cfg0.win 2).blk t).view.emb y) = V m c main_v1 _
  congr 1
  funext a; apply Fin.ext
  match a with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega
theorem block3 (c : Dev nD) (t : Fin cfg0.N) : iblk m c 3 t = V m c main_v3 := by
  obtain ⟨e0, e1⟩ := index3 t
  funext y
  show V m c main_v3 (((cfg0.win 3).blk t).view.emb y) = V m c main_v3 _
  congr 1
  funext a; apply Fin.ext
  match a with
  | ⟨0, _⟩ => show win0_3.index t (0 : Fin 2) * 512 + 1 * (y 0).val = (y 0).val; rw [e0]; omega
  | ⟨1, _⟩ => show win0_3.index t (1 : Fin 2) * 512 + 1 * (y 1).val = (y 1).val; rw [e1]; omega
theorem block4 (c : Dev nD) (t : Fin cfg0.N) : iblk m c 4 t = V m c main_v4 := by
  obtain ⟨e0, e1⟩ := index4 t
  funext y
  show V m c main_v4 (((cfg0.win 4).blk t).view.emb y) = V m c main_v4 _
  congr 1
  funext a; apply Fin.ext
  match a with
  | ⟨0, _⟩ => show win0_4.index t (0 : Fin 2) * 512 + 1 * (y 0).val = (y 0).val; rw [e0]; omega
  | ⟨1, _⟩ => show win0_4.index t (1 : Fin 2) * 512 + 1 * (y 1).val = (y 1).val; rw [e1]; omega
theorem block5 (c : Dev nD) (t : Fin cfg0.N) : iblk m c 5 t = V m c main_v5 := by
  obtain ⟨e0, e1⟩ := index5 t
  funext y
  show V m c main_v5 (((cfg0.win 5).blk t).view.emb y) = V m c main_v5 _
  congr 1
  funext a; apply Fin.ext
  match a with
  | ⟨0, _⟩ => show win0_5.index t (0 : Fin 2) * 1 + 1 * (y 0).val = (y 0).val; rw [e0]; omega
  | ⟨1, _⟩ => show win0_5.index t (1 : Fin 2) * 512 + 1 * (y 1).val = (y 1).val; rw [e1]; omega

end Cert.KernelIdeal.Recall

end
-- ==== Proof.RunStore.lean ====
/- The kernel body at the store steps (0 to 7), run on known buffer contents. -/
module

public import proofs.«01_k».proof.Proof.State

@[expose] public section

set_option maxRecDepth 16384

noncomputable section

namespace Cert.KernelIdeal.Recall

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
    {arg2 : Memref sig .tc .vmem S512x512 .f32} (harg2 : arg2.IsWhole) {arg3 : Memref sig .tc .vmem S1024x512 .f32} (harg3 : arg3.IsWhole)
    {arg4 : Memref sig .tc .vmem S512x512 .f32} (harg4 : arg4.IsWhole) {arg5 : Memref sig .tc .vmem S512x512 .f32} (harg5 : arg5.IsWhole)
    {arg6 : Memref sig .tc .vmem S512x512 .f32} (harg6 : arg6.IsWhole) {arg7 : Memref sig .tc .vmem S1x512 .f32} (harg7 : arg7.IsWhole)
    {arg8 : Memref sig .tc .vmem S512x512 .f32} (harg8 : arg8.IsWhole) {arg9 : Memref sig .tc .vmem S8x512x1024 .f32} (harg9 : arg9.IsWhole)
    {arg10 : Memref sig .tc .vmem S8x1024x512 .bf16} (harg10 : arg10.IsWhole) {arg11 : Memref sig .tc .vmem S4x512x128 .f32} (harg11 : arg11.IsWhole)
    {arg12 : Memref sig .tc .vmem S512x512 .f32} (harg12 : arg12.IsWhole) {arg13 : Memref sig .tc .vmem S512x1 .f32} (harg13 : arg13.IsWhole)
    {arg14 : Memref sig .tc .vmem S512x1 .f32} (harg14 : arg14.IsWhole)

set_option maxHeartbeats 1200000 in
/-- At step 0 the body stores the chunk's similarities and the copy of its patterns, and clears the table. -/
theorem runFirst (h1 : isStore i) (h2 : isFirst i) (h3 : ¬isFold i) (h4 : ¬isSelect i) (h5 : ¬isSum i) (h7 : ¬isAdd i) (h8 : ¬isLast i)
    (x2 : Vec F S512x512 .f32) (x3 : Vec F S1024x512 .f32) (x9 : Vec F S8x512x1024 .f32) (x10 : Vec F S8x1024x512 .bf16) (x11 : Vec F S4x512x128 .f32)
    (E : Set ℕ) (K : PUnit → sProp 𝕄) :
    iprop(owns (c : Thread nD τ) arg2 fullShare x2 ∗ owns (c : Thread nD τ) arg3 fullShare x3 ∗ owns (c : Thread nD τ) arg9 fullShare x9 ∗ owns (c : Thread nD τ) arg10 fullShare x10 ∗ owns (c : Thread nD τ) arg11 fullShare x11
        ∗ (iprop(owns (c : Thread nD τ) arg2 fullShare x2 ∗ owns (c : Thread nD τ) arg3 fullShare x3 ∗ owns (c : Thread nD τ) arg9 fullShare (VecWindow.put x9 (k0_off1 i) S1x512x1024.size (k0_pay1 x2 x3)) ∗ owns (c : Thread nD τ) arg10 fullShare (VecWindow.put x10 (k0_off2 i) S1x1024x512.size (k0_pay2 x3)) ∗ owns (c : Thread nD τ) arg11 fullShare k0_pay3) -∗ K ⟨⟩))
      ⊢ wp frame (wpE (defs₀ (F := F)) Variants.none c none) E (cc0__mem_kernel i arg2 harg2 arg3 harg3 arg4 harg4 arg5 harg5 arg6 harg6 arg7 harg7 arg8 harg8 arg9 harg9 arg10 harg10 arg11 harg11 arg12 harg12 arg13 harg13 arg14 harg14) K := by
  simp only [cc0__mem_kernel_eq_skeleton]; unfold cc0__mem_kernel_skel
  unfold owns
  iintro ⟨⟨%f2, %hf2, H2⟩, ⟨%f3, %hf3, H3⟩, ⟨%f9, %hf9, H9⟩, ⟨%f10, %hf10, H10⟩, ⟨%f11, %hf11, H11⟩, Hk⟩
  obtain rfl := harg2.eq_unread hf2; obtain rfl := harg3.eq_unread hf3; obtain rfl := harg9.eq_unread hf9; obtain rfl := harg10.eq_unread hf10; obtain rfl := harg11.eq_unread hf11
  sl_exec (disch := first | sl_exact h1 | sl_exact h2 | sl_exact h3 | sl_exact h4 | sl_exact h5 | sl_exact h7 | sl_exact h8)
  sl_step
  iapply Hk
  isplitl [H2]
  · iexists _; isplitr; · ipureintro; exact harg2.read_unread _
    iexact H2
  isplitl [H3]
  · iexists _; isplitr; · ipureintro; exact harg3.read_unread _
    iexact H3
  isplitl [H9]
  · iexists _; isplitr; swap; iexact H9
    ipureintro
    simp only [store_put, load_window, load_stores, View.writes_nil, harg2.read_unread, harg3.read_unread, harg9.read_unread, harg10.read_unread, harg11.read_unread, window_all2, put_all2, put_all3]
    try rfl
  isplitl [H10]
  · iexists _; isplitr; swap; iexact H10
    ipureintro
    simp only [store_put, load_window, load_stores, View.writes_nil, harg2.read_unread, harg3.read_unread, harg9.read_unread, harg10.read_unread, harg11.read_unread, window_all2, put_all2, put_all3]
    try rfl
  iexists _; isplitr; swap; iexact H11
  ipureintro
  simp only [store_put, load_window, load_stores, View.writes_nil, harg2.read_unread, harg3.read_unread, harg9.read_unread, harg10.read_unread, harg11.read_unread, window_all2, put_all2, put_all3]
  try rfl

set_option maxHeartbeats 1200000 in
/-- At steps 1 to 7 the body stores the chunk's similarities and the copy of its patterns, and folds the chunk before into the table. -/
theorem runFold (h1 : isStore i) (h2 : ¬isFirst i) (h3 : isFold i) (h4 : ¬isSelect i) (h5 : ¬isSum i) (h7 : ¬isAdd i) (h8 : ¬isLast i)
    (x2 : Vec F S512x512 .f32) (x3 : Vec F S1024x512 .f32) (x9 : Vec F S8x512x1024 .f32) (x10 : Vec F S8x1024x512 .bf16) (x11 : Vec F S4x512x128 .f32)
    (E : Set ℕ) (K : PUnit → sProp 𝕄) :
    iprop(owns (c : Thread nD τ) arg2 fullShare x2 ∗ owns (c : Thread nD τ) arg3 fullShare x3 ∗ owns (c : Thread nD τ) arg9 fullShare x9 ∗ owns (c : Thread nD τ) arg10 fullShare x10 ∗ owns (c : Thread nD τ) arg11 fullShare x11
        ∗ (iprop(owns (c : Thread nD τ) arg2 fullShare x2 ∗ owns (c : Thread nD τ) arg3 fullShare x3 ∗ owns (c : Thread nD τ) arg9 fullShare (VecWindow.put x9 (k0_off1 i) S1x512x1024.size (k0_pay1 x2 x3)) ∗ owns (c : Thread nD τ) arg10 fullShare (VecWindow.put x10 (k0_off2 i) S1x1024x512.size (k0_pay2 x3)) ∗ owns (c : Thread nD τ) arg11 fullShare (foldTable (foldChunk i h3 (VecWindow.put x9 (k0_off1 i) S1x512x1024.size (k0_pay1 x2 x3))) x11)) -∗ K ⟨⟩))
      ⊢ wp frame (wpE (defs₀ (F := F)) Variants.none c none) E (cc0__mem_kernel i arg2 harg2 arg3 harg3 arg4 harg4 arg5 harg5 arg6 harg6 arg7 harg7 arg8 harg8 arg9 harg9 arg10 harg10 arg11 harg11 arg12 harg12 arg13 harg13 arg14 harg14) K := by
  simp only [cc0__mem_kernel_eq_skeleton]; unfold cc0__mem_kernel_skel
  simp only [k0_part1_eq_skeleton, k0_part2_eq_skeleton]
  unfold owns
  iintro ⟨⟨%f2, %hf2, H2⟩, ⟨%f3, %hf3, H3⟩, ⟨%f9, %hf9, H9⟩, ⟨%f10, %hf10, H10⟩, ⟨%f11, %hf11, H11⟩, Hk⟩
  obtain rfl := harg2.eq_unread hf2; obtain rfl := harg3.eq_unread hf3; obtain rfl := harg9.eq_unread hf9; obtain rfl := harg10.eq_unread hf10; obtain rfl := harg11.eq_unread hf11
  have hpos := fold_pos i h3
  have hlt : (i 1).val < 16 := (i 1).isLt
  sl_exec (disch := first | sl_exact h1 | sl_exact h2 | sl_exact h3 | sl_exact h4 | sl_exact h5 | sl_exact h7 | sl_exact h8)
  sl_step
  iapply Hk
  isplitl [H2]
  · iexists _; isplitr; · ipureintro; exact harg2.read_unread _
    iexact H2
  isplitl [H3]
  · iexists _; isplitr; · ipureintro; exact harg3.read_unread _
    iexact H3
  isplitl [H9]
  · iexists _; isplitr; swap; iexact H9
    ipureintro
    try delta runFold.sl.r_14
    try delta runFold.sl.r_13
    try delta runFold.sl.r_12
    try delta runFold.sl.r_11
    try delta runFold.sl.r_10
    try delta runFold.sl.r_9
    try delta runFold.sl.r_8
    try delta runFold.sl.r_7
    try delta runFold.sl.r_6
    try delta runFold.sl.r_5
    try delta runFold.sl.r_4
    try delta runFold.sl.r_3
    try delta runFold.sl.r_2
    try delta runFold.sl.r_1
    try delta runFold.sl.r
    try delta runFold.sl.v22
    try delta runFold.sl.H9_1
    simp only [store_put, load_window, load_stores, View.writes_nil, harg2.read_unread, harg3.read_unread, harg9.read_unread, harg10.read_unread, harg11.read_unread, window_all2, put_all2, put_all3]
    try rfl
  isplitl [H10]
  · iexists _; isplitr; swap; iexact H10
    ipureintro
    try delta runFold.sl.r_14
    try delta runFold.sl.r_13
    try delta runFold.sl.r_12
    try delta runFold.sl.r_11
    try delta runFold.sl.r_10
    try delta runFold.sl.r_9
    try delta runFold.sl.r_8
    try delta runFold.sl.r_7
    try delta runFold.sl.r_6
    try delta runFold.sl.r_5
    try delta runFold.sl.r_4
    try delta runFold.sl.r_3
    try delta runFold.sl.r_2
    try delta runFold.sl.r_1
    try delta runFold.sl.r
    try delta runFold.sl.v22
    try delta runFold.sl.H9_1
    simp only [store_put, load_window, load_stores, View.writes_nil, harg2.read_unread, harg3.read_unread, harg9.read_unread, harg10.read_unread, harg11.read_unread, window_all2, put_all2, put_all3]
    try rfl
  iexists _; isplitr; swap; iexact H11
  ipureintro
  try delta runFold.sl.r_14
  try delta runFold.sl.r_13
  try delta runFold.sl.r_12
  try delta runFold.sl.r_11
  try delta runFold.sl.r_10
  try delta runFold.sl.r_9
  try delta runFold.sl.r_8
  try delta runFold.sl.r_7
  try delta runFold.sl.r_6
  try delta runFold.sl.r_5
  try delta runFold.sl.r_4
  try delta runFold.sl.r_3
  try delta runFold.sl.r_2
  try delta runFold.sl.r_1
  try delta runFold.sl.r
  try delta runFold.sl.v22
  try delta runFold.sl.H9_1
  simp only [store_put, load_window, load_stores, View.writes_nil, harg2.read_unread, harg3.read_unread, harg9.read_unread, harg10.read_unread, harg11.read_unread, window_all2, put_all2, put_all3]
  try rfl

end Cert.KernelIdeal.Recall

end
-- ==== Proof.RunSum.lean ====
/- The kernel body at the sum steps (8 to 15), run on known buffer contents. -/
module

public import proofs.«01_k».proof.Proof.State

@[expose] public section

set_option maxRecDepth 16384

noncomputable section

namespace Cert.KernelIdeal.Recall

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
    {arg2 : Memref sig .tc .vmem S512x512 .f32} (harg2 : arg2.IsWhole) {arg3 : Memref sig .tc .vmem S1024x512 .f32} (harg3 : arg3.IsWhole)
    {arg4 : Memref sig .tc .vmem S512x512 .f32} (harg4 : arg4.IsWhole) {arg5 : Memref sig .tc .vmem S512x512 .f32} (harg5 : arg5.IsWhole)
    {arg6 : Memref sig .tc .vmem S512x512 .f32} (harg6 : arg6.IsWhole) {arg7 : Memref sig .tc .vmem S1x512 .f32} (harg7 : arg7.IsWhole)
    {arg8 : Memref sig .tc .vmem S512x512 .f32} (harg8 : arg8.IsWhole) {arg9 : Memref sig .tc .vmem S8x512x1024 .f32} (harg9 : arg9.IsWhole)
    {arg10 : Memref sig .tc .vmem S8x1024x512 .bf16} (harg10 : arg10.IsWhole) {arg11 : Memref sig .tc .vmem S4x512x128 .f32} (harg11 : arg11.IsWhole)
    {arg12 : Memref sig .tc .vmem S512x512 .f32} (harg12 : arg12.IsWhole) {arg13 : Memref sig .tc .vmem S512x1 .f32} (harg13 : arg13.IsWhole)
    {arg14 : Memref sig .tc .vmem S512x1 .f32} (harg14 : arg14.IsWhole)

set_option maxHeartbeats 1200000 in
/-- At step 8 the body folds the last chunk into the table, reads the threshold off it, and starts the two sums with the first chunk's share. -/
theorem runSelect (h1 : ¬isStore i) (h2 : ¬isFirst i) (h3 : ¬isFold i) (h4 : isSelect i) (h5 : isSum i) (h7 : ¬isAdd i) (h8 : ¬isLast i)
    (x9 : Vec F S8x512x1024 .f32) (x10 : Vec F S8x1024x512 .bf16) (x11 : Vec F S4x512x128 .f32) (x12 : Vec F S512x512 .f32) (x13 : Vec F S512x1 .f32) (x14 : Vec F S512x1 .f32)
    (E : Set ℕ) (K : PUnit → sProp 𝕄) :
    iprop(owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
        ∗ (iprop(owns (c : Thread nD τ) arg9 fullShare x9 ∗ owns (c : Thread nD τ) arg10 fullShare x10 ∗ owns (c : Thread nD τ) arg11 fullShare (lastTable (lastChunk x9) x11) ∗ owns (c : Thread nD τ) arg12 fullShare (k0_pay12 (sumChunk i h5 x9) (threshold (lastTable (lastChunk x9) x11)) (sumPatterns i h5 x10)) ∗ owns (c : Thread nD τ) arg13 fullShare (threshold (lastTable (lastChunk x9) x11)) ∗ owns (c : Thread nD τ) arg14 fullShare (k0_pay13 (sumChunk i h5 x9) (threshold (lastTable (lastChunk x9) x11)))) -∗ K ⟨⟩))
      ⊢ wp frame (wpE (defs₀ (F := F)) Variants.none c none) E (cc0__mem_kernel i arg2 harg2 arg3 harg3 arg4 harg4 arg5 harg5 arg6 harg6 arg7 harg7 arg8 harg8 arg9 harg9 arg10 harg10 arg11 harg11 arg12 harg12 arg13 harg13 arg14 harg14) K := by
  simp only [cc0__mem_kernel_eq_skeleton]; unfold cc0__mem_kernel_skel
  simp only [k0_part6_eq_skeleton, k0_part3_eq_skeleton, k0_part4_eq_skeleton, k0_part5_eq_skeleton]
  unfold owns
  iintro ⟨⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact h1 | sl_exact h2 | sl_exact h3 | sl_exact h4 | sl_exact h5 | sl_exact h7 | sl_exact h8)
  sl_step
  iapply Hk
  isplitl [H9]
  · iexists _; isplitr; · ipureintro; exact harg9.read_unread _
    iexact H9
  isplitl [H10]
  · iexists _; isplitr; · ipureintro; exact harg10.read_unread _
    iexact H10
  isplitl [H11]
  · iexists _; isplitr; swap; iexact H11
    ipureintro
    try delta runSelect.sl.v22
    try delta runSelect.sl.v24
    try delta runSelect.sl.v36
    try delta runSelect.sl.H13_1
    try delta runSelect.sl.r_24
    try delta runSelect.sl.r_23
    try delta runSelect.sl.r_22
    try delta runSelect.sl.r_21
    try delta runSelect.sl.r_20
    try delta runSelect.sl.r_19
    try delta runSelect.sl.r_18
    try delta runSelect.sl.r_17
    try delta runSelect.sl.r_16
    try delta runSelect.sl.r_15
    try delta runSelect.sl.r_14
    try delta runSelect.sl.r_13
    try delta runSelect.sl.v138
    try delta runSelect.sl.v140
    try delta runSelect.sl.v142
    try delta runSelect.sl.v144
    try delta runSelect.sl.H11_4
    try delta runSelect.sl.H11_3
    try delta runSelect.sl.H11_2
    try delta runSelect.sl.H11_1
    try delta runSelect.sl.r_12
    try delta runSelect.sl.r_11
    try delta runSelect.sl.r_10
    try delta runSelect.sl.r_9
    try delta runSelect.sl.r_8
    try delta runSelect.sl.r_7
    try delta runSelect.sl.r_6
    try delta runSelect.sl.r_5
    try delta runSelect.sl.r_4
    try delta runSelect.sl.r_3
    try delta runSelect.sl.r_2
    try delta runSelect.sl.r_1
    try delta runSelect.sl.r
    try delta runSelect.sl.v20
    simp only [store_put, load_window, load_stores, View.writes_nil, harg9.read_unread, harg10.read_unread, harg11.read_unread, harg12.read_unread, harg13.read_unread, harg14.read_unread, window_all2, put_all2, put_all3]
    rfl
  isplitl [H12]
  · iexists _; isplitr; swap; iexact H12
    ipureintro
    try delta runSelect.sl.v22
    try delta runSelect.sl.v24
    try delta runSelect.sl.v36
    try delta runSelect.sl.H13_1
    try delta runSelect.sl.r_24
    try delta runSelect.sl.r_23
    try delta runSelect.sl.r_22
    try delta runSelect.sl.r_21
    try delta runSelect.sl.r_20
    try delta runSelect.sl.r_19
    try delta runSelect.sl.r_18
    try delta runSelect.sl.r_17
    try delta runSelect.sl.r_16
    try delta runSelect.sl.r_15
    try delta runSelect.sl.r_14
    try delta runSelect.sl.r_13
    try delta runSelect.sl.v138
    try delta runSelect.sl.v140
    try delta runSelect.sl.v142
    try delta runSelect.sl.v144
    try delta runSelect.sl.H11_4
    try delta runSelect.sl.H11_3
    try delta runSelect.sl.H11_2
    try delta runSelect.sl.H11_1
    try delta runSelect.sl.r_12
    try delta runSelect.sl.r_11
    try delta runSelect.sl.r_10
    try delta runSelect.sl.r_9
    try delta runSelect.sl.r_8
    try delta runSelect.sl.r_7
    try delta runSelect.sl.r_6
    try delta runSelect.sl.r_5
    try delta runSelect.sl.r_4
    try delta runSelect.sl.r_3
    try delta runSelect.sl.r_2
    try delta runSelect.sl.r_1
    try delta runSelect.sl.r
    try delta runSelect.sl.v20
    simp only [store_put, load_window, load_stores, View.writes_nil, harg9.read_unread, harg10.read_unread, harg11.read_unread, harg12.read_unread, harg13.read_unread, harg14.read_unread, window_all2, put_all2, put_all3]
    exact congrArg (fun τ => k0_pay12 (sumChunk i h5 x9) τ (sumPatterns i h5 x10)) (threshold_last (View.read (Elt F) arg11.view arg11.view.junk) (lastChunk x9) x11)
  isplitl [H13]
  · iexists _; isplitr; swap; iexact H13
    ipureintro
    try delta runSelect.sl.v22
    try delta runSelect.sl.v24
    try delta runSelect.sl.v36
    try delta runSelect.sl.H13_1
    try delta runSelect.sl.r_24
    try delta runSelect.sl.r_23
    try delta runSelect.sl.r_22
    try delta runSelect.sl.r_21
    try delta runSelect.sl.r_20
    try delta runSelect.sl.r_19
    try delta runSelect.sl.r_18
    try delta runSelect.sl.r_17
    try delta runSelect.sl.r_16
    try delta runSelect.sl.r_15
    try delta runSelect.sl.r_14
    try delta runSelect.sl.r_13
    try delta runSelect.sl.v138
    try delta runSelect.sl.v140
    try delta runSelect.sl.v142
    try delta runSelect.sl.v144
    try delta runSelect.sl.H11_4
    try delta runSelect.sl.H11_3
    try delta runSelect.sl.H11_2
    try delta runSelect.sl.H11_1
    try delta runSelect.sl.r_12
    try delta runSelect.sl.r_11
    try delta runSelect.sl.r_10
    try delta runSelect.sl.r_9
    try delta runSelect.sl.r_8
    try delta runSelect.sl.r_7
    try delta runSelect.sl.r_6
    try delta runSelect.sl.r_5
    try delta runSelect.sl.r_4
    try delta runSelect.sl.r_3
    try delta runSelect.sl.r_2
    try delta runSelect.sl.r_1
    try delta runSelect.sl.r
    try delta runSelect.sl.v20
    simp only [store_put, load_window, load_stores, View.writes_nil, harg9.read_unread, harg10.read_unread, harg11.read_unread, harg12.read_unread, harg13.read_unread, harg14.read_unread, window_all2, put_all2, put_all3]
    exact threshold_last (View.read (Elt F) arg11.view arg11.view.junk) (lastChunk x9) x11
  iexists _; isplitr; swap; iexact H14
  ipureintro
  try delta runSelect.sl.v22
  try delta runSelect.sl.v24
  try delta runSelect.sl.v36
  try delta runSelect.sl.H13_1
  try delta runSelect.sl.r_24
  try delta runSelect.sl.r_23
  try delta runSelect.sl.r_22
  try delta runSelect.sl.r_21
  try delta runSelect.sl.r_20
  try delta runSelect.sl.r_19
  try delta runSelect.sl.r_18
  try delta runSelect.sl.r_17
  try delta runSelect.sl.r_16
  try delta runSelect.sl.r_15
  try delta runSelect.sl.r_14
  try delta runSelect.sl.r_13
  try delta runSelect.sl.v138
  try delta runSelect.sl.v140
  try delta runSelect.sl.v142
  try delta runSelect.sl.v144
  try delta runSelect.sl.H11_4
  try delta runSelect.sl.H11_3
  try delta runSelect.sl.H11_2
  try delta runSelect.sl.H11_1
  try delta runSelect.sl.r_12
  try delta runSelect.sl.r_11
  try delta runSelect.sl.r_10
  try delta runSelect.sl.r_9
  try delta runSelect.sl.r_8
  try delta runSelect.sl.r_7
  try delta runSelect.sl.r_6
  try delta runSelect.sl.r_5
  try delta runSelect.sl.r_4
  try delta runSelect.sl.r_3
  try delta runSelect.sl.r_2
  try delta runSelect.sl.r_1
  try delta runSelect.sl.r
  try delta runSelect.sl.v20
  simp only [store_put, load_window, load_stores, View.writes_nil, harg9.read_unread, harg10.read_unread, harg11.read_unread, harg12.read_unread, harg13.read_unread, harg14.read_unread, window_all2, put_all2, put_all3]
  exact congrArg (fun τ => k0_pay13 (sumChunk i h5 x9) τ) (threshold_last (View.read (Elt F) arg11.view arg11.view.junk) (lastChunk x9) x11)

set_option maxHeartbeats 1200000 in
/-- At steps 9 to 14 the body adds the chunk's share to the two sums. -/
theorem runAdd (h1 : ¬isStore i) (h2 : ¬isFirst i) (h3 : ¬isFold i) (h4 : ¬isSelect i) (h5 : isSum i) (h7 : isAdd i) (h8 : ¬isLast i)
    (x9 : Vec F S8x512x1024 .f32) (x10 : Vec F S8x1024x512 .bf16) (x12 : Vec F S512x512 .f32) (x13 : Vec F S512x1 .f32) (x14 : Vec F S512x1 .f32)
    (E : Set ℕ) (K : PUnit → sProp 𝕄) :
    iprop(owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg14 fullShare x14
        ∗ (iprop(owns (c : Thread nD τ) arg9 fullShare x9 ∗ owns (c : Thread nD τ) arg10 fullShare x10 ∗ owns (c : Thread nD τ) arg12 fullShare (k0_pay14 (sumChunk i h5 x9) x13 (sumPatterns i h5 x10) x12) ∗ owns (c : Thread nD τ) arg13 fullShare x13 ∗ owns (c : Thread nD τ) arg14 fullShare (k0_pay15 (sumChunk i h5 x9) x13 x14)) -∗ K ⟨⟩))
      ⊢ wp frame (wpE (defs₀ (F := F)) Variants.none c none) E (cc0__mem_kernel i arg2 harg2 arg3 harg3 arg4 harg4 arg5 harg5 arg6 harg6 arg7 harg7 arg8 harg8 arg9 harg9 arg10 harg10 arg11 harg11 arg12 harg12 arg13 harg13 arg14 harg14) K := by
  simp only [cc0__mem_kernel_eq_skeleton]; unfold cc0__mem_kernel_skel
  unfold owns
  iintro ⟨⟨%f9, %hf9, H9⟩, ⟨%f10, %hf10, H10⟩, ⟨%f12, %hf12, H12⟩, ⟨%f13, %hf13, H13⟩, ⟨%f14, %hf14, H14⟩, Hk⟩
  obtain rfl := harg9.eq_unread hf9; obtain rfl := harg10.eq_unread hf10; obtain rfl := harg12.eq_unread hf12; obtain rfl := harg13.eq_unread hf13; obtain rfl := harg14.eq_unread hf14
  sl_exec (disch := first | sl_exact h1 | sl_exact h2 | sl_exact h3 | sl_exact h4 | sl_exact h5 | sl_exact h7 | sl_exact h8)
  sl_step
  iapply Hk
  isplitl [H9]
  · iexists _; isplitr; · ipureintro; exact harg9.read_unread _
    iexact H9
  isplitl [H10]
  · iexists _; isplitr; · ipureintro; exact harg10.read_unread _
    iexact H10
  isplitl [H12]
  · iexists _; isplitr; swap; iexact H12
    ipureintro
    simp only [store_put, load_window, load_stores, View.writes_nil, harg9.read_unread, harg10.read_unread, harg12.read_unread, harg13.read_unread, harg14.read_unread, window_all2, put_all2, put_all3]
    try rfl
  isplitl [H13]
  · iexists _; isplitr; · ipureintro; exact harg13.read_unread _
    iexact H13
  iexists _; isplitr; swap; iexact H14
  ipureintro
  simp only [store_put, load_window, load_stores, View.writes_nil, harg9.read_unread, harg10.read_unread, harg12.read_unread, harg13.read_unread, harg14.read_unread, window_all2, put_all2, put_all3]
  try rfl

set_option maxHeartbeats 1200000 in
/-- At step 15 the body adds the last chunk's share to the two sums and writes the output block from them. -/
theorem runLast (h1 : ¬isStore i) (h2 : ¬isFirst i) (h3 : ¬isFold i) (h4 : ¬isSelect i) (h5 : isSum i) (h7 : isAdd i) (h8 : isLast i)
    (x2 : Vec F S512x512 .f32) (x4 : Vec F S512x512 .f32) (x5 : Vec F S512x512 .f32) (x6 : Vec F S512x512 .f32) (x7 : Vec F S1x512 .f32) (x8 : Vec F S512x512 .f32) (x9 : Vec F S8x512x1024 .f32) (x10 : Vec F S8x1024x512 .bf16) (x12 : Vec F S512x512 .f32) (x13 : Vec F S512x1 .f32) (x14 : Vec F S512x1 .f32)
    (E : Set ℕ) (K : PUnit → sProp 𝕄) :
    iprop(owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg14 fullShare x14
        ∗ (iprop(owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay16 x2 (k0_pay14 (sumChunk i h5 x9) x13 (sumPatterns i h5 x10) x12) (k0_pay15 (sumChunk i h5 x9) x13 x14) x4 x5 x7 x6) ∗ owns (c : Thread nD τ) arg9 fullShare x9 ∗ owns (c : Thread nD τ) arg10 fullShare x10 ∗ owns (c : Thread nD τ) arg12 fullShare (k0_pay14 (sumChunk i h5 x9) x13 (sumPatterns i h5 x10) x12) ∗ owns (c : Thread nD τ) arg13 fullShare x13 ∗ owns (c : Thread nD τ) arg14 fullShare (k0_pay15 (sumChunk i h5 x9) x13 x14)) -∗ K ⟨⟩))
      ⊢ wp frame (wpE (defs₀ (F := F)) Variants.none c none) E (cc0__mem_kernel i arg2 harg2 arg3 harg3 arg4 harg4 arg5 harg5 arg6 harg6 arg7 harg7 arg8 harg8 arg9 harg9 arg10 harg10 arg11 harg11 arg12 harg12 arg13 harg13 arg14 harg14) K := by
  simp only [cc0__mem_kernel_eq_skeleton]; unfold cc0__mem_kernel_skel
  unfold owns
  iintro ⟨⟨%f2, %hf2, H2⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f12, %hf12, H12⟩, ⟨%f13, %hf13, H13⟩, ⟨%f14, %hf14, H14⟩, Hk⟩
  obtain rfl := harg2.eq_unread hf2; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14
  sl_exec (disch := first | sl_exact h1 | sl_exact h2 | sl_exact h3 | sl_exact h4 | sl_exact h5 | sl_exact h7 | sl_exact h8)
  sl_step
  iapply Hk
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; iexact H8
    ipureintro
    try delta runLast.sl.v21
    try delta runLast.sl.v22
    try delta runLast.sl.H12_1
    try delta runLast.sl.H14_1
    simp only [store_put, load_window, load_stores, View.writes_nil, harg2.read_unread, harg4.read_unread, harg5.read_unread, harg6.read_unread, harg7.read_unread, harg8.read_unread, harg9.read_unread, harg10.read_unread, harg12.read_unread, harg13.read_unread, harg14.read_unread, window_all2, put_all2, put_all3]
    try rfl
  isplitl [H9]
  · iexists _; isplitr; · ipureintro; exact harg9.read_unread _
    iexact H9
  isplitl [H10]
  · iexists _; isplitr; · ipureintro; exact harg10.read_unread _
    iexact H10
  isplitl [H12]
  · iexists _; isplitr; swap; iexact H12
    ipureintro
    try delta runLast.sl.v21
    try delta runLast.sl.v22
    try delta runLast.sl.H12_1
    try delta runLast.sl.H14_1
    simp only [store_put, load_window, load_stores, View.writes_nil, harg2.read_unread, harg4.read_unread, harg5.read_unread, harg6.read_unread, harg7.read_unread, harg8.read_unread, harg9.read_unread, harg10.read_unread, harg12.read_unread, harg13.read_unread, harg14.read_unread, window_all2, put_all2, put_all3]
    try rfl
  isplitl [H13]
  · iexists _; isplitr; · ipureintro; exact harg13.read_unread _
    iexact H13
  iexists _; isplitr; swap; iexact H14
  ipureintro
  try delta runLast.sl.v21
  try delta runLast.sl.v22
  try delta runLast.sl.H12_1
  try delta runLast.sl.H14_1
  simp only [store_put, load_window, load_stores, View.writes_nil, harg2.read_unread, harg4.read_unread, harg5.read_unread, harg6.read_unread, harg7.read_unread, harg8.read_unread, harg9.read_unread, harg10.read_unread, harg12.read_unread, harg13.read_unread, harg14.read_unread, window_all2, put_all2, put_all3]
  try rfl

end Cert.KernelIdeal.Recall

end
-- ==== Proof.Body.lean ====
/- The kernel's run as a whole: every grid point's body carries the invariant of the scratch buffers to the next point and
   leaves each input block in place; the last step of a row block writes its output block. From that, the run of the whole
   program: it ends, with no counter raised, the arguments unchanged, and the output array assembled from the blocks. -/
module

public import proofs.«01_k».proof.Proof.Invariant
public import proofs.«01_k».proof.Proof.Blocks
public import proofs.«01_k».proof.Proof.RunStore
public import proofs.«01_k».proof.Proof.RunSum
public import Idealize.ShloMosaic.Lib.Claim

@[expose] public section

set_option Elab.async false
set_option maxRecDepth 16384

noncomputable section

namespace Cert.KernelIdeal.Recall

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's scratch buffers: similarities, pattern copies, table, weighted sum, threshold, sum of weights. -/
abbrev scrSims : Memref sig .tc .vmem S8x512x1024 .f32 := Memref.whole cc0_scratch0
abbrev scrPats : Memref sig .tc .vmem S8x1024x512 .bf16 := Memref.whole cc0_scratch1
abbrev scrTable : Memref sig .tc .vmem S4x512x128 .f32 := Memref.whole cc0_scratch2
abbrev scrAcc : Memref sig .tc .vmem S512x512 .f32 := Memref.whole cc0_scratch3
abbrev scrThr : Memref sig .tc .vmem S512x1 .f32 := Memref.whole cc0_scratch4
abbrev scrWeight : Memref sig .tc .vmem S512x1 .f32 := Memref.whole cc0_scratch5

/-- What the launch hands over: each scratch buffer at some contents, the generator register at some state. -/
theorem scratch_eq (c : Dev nD) :
    (Pipeline.ΦA spec0 c : sProp 𝕄)
      = iprop(iprop((∃ d, owns (c : Thread nD τ) scrSims fullShare d) ∗ (∃ d, owns (c : Thread nD τ) scrPats fullShare d)
          ∗ (∃ d, owns (c : Thread nD τ) scrTable fullShare d) ∗ (∃ d, owns (c : Thread nD τ) scrAcc fullShare d)
          ∗ (∃ d, owns (c : Thread nD τ) scrThr fullShare d) ∗ (∃ d, owns (c : Thread nD τ) scrWeight fullShare d))
          ∗ (∃ r, prngReg c r)) := by
  unfold Pipeline.ΦA; rw [scopedRest0_eq]
  simp only [scrSims, scrPats, scrTable, scrAcc, scrThr, scrWeight, owns_whole]; try rfl

/-- What the scratch buffers hold before point `n`. -/
abbrev HeldAt (c : Dev nD) (n : ℕ) := Held (cueBlock m c (n / 16)) (patChunk m c) (n % 16)

/-- Within a row block a step leads to the next; after the last step nothing is asked. -/
theorem held_next {c : Dev nD} {n : ℕ} {s : Vec F S8x512x1024 .f32} {p : Vec F S8x1024x512 .bf16} {g : Vec F S4x512x128 .f32}
    {acc : Vec F S512x512 .f32} {t z : Vec F S512x1 .f32}
    (h : Held (cueBlock m c (n / 16)) (patChunk m c) (n % 16 + 1) s p g acc t z) : HeldAt m c (n + 1) s p g acc t z := by
  by_cases e : n % 16 = 15
  · have e' : (n + 1) % 16 = 0 := by omega
    unfold HeldAt; rw [e']; exact Held.start
  · have e1 : (n + 1) % 16 = n % 16 + 1 := by omega
    have e2 : (n + 1) / 16 = n / 16 := by omega
    unfold HeldAt; rw [e1, e2]; exact h

/-- The invariant before point `n`. -/
def inv (c : Dev nD) (n : ℕ) : sProp 𝕄 :=
  iprop(∃ s, ∃ p, ∃ g, ∃ acc, ∃ th, ∃ z, ⌜HeldAt m c n s p g acc th z⌝
    ∗ owns (c : Thread nD τ) scrSims fullShare s ∗ owns (c : Thread nD τ) scrPats fullShare p ∗ owns (c : Thread nD τ) scrTable fullShare g
    ∗ owns (c : Thread nD τ) scrAcc fullShare acc ∗ owns (c : Thread nD τ) scrThr fullShare th ∗ owns (c : Thread nD τ) scrWeight fullShare z
    ∗ (∃ r, prngReg c r))

/-- The output block of row block `b`. -/
def outBlock (c : Dev nD) (b : ℕ) : Vec F S512x512 .f32 :=
  outOf (cueBlock m c b) (patChunk m c) (V m c main_v1) (V m c main_v3) (V m c main_v4) (V m c main_v5)

/-- The proof data of the one pipeline: each input window at its block, the output window at its row block's output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock m c (t.val / 16)
  Φ t := inv m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outBlock m c (t.val / 16) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem inv_castSucc (c : Dev nD) (t : Fin cfg0.N) : (dats m 0 c).Φ t.castSucc = inv m c t.val := by
  dsimp only [dats]; exact Pipeline.Dat.Φ_castSucc (fun n _ => inv m c n) t
theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) (h : t.val % 16 = 15) :
    (dats m 0 c).leavesExact 6 t = owns (c : Thread nD τ) (st0_6 t) fullShare (outBlock m c (t.val / 16)) := by
  unfold Dat.leavesExact; rw [out_live t h, after_6]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl, inv_castSucc,
    show (dats m 0 c).Φ t.succ = inv m c (t.val + 1) from rfl, leaves_0, leaves_1, leaves_2, leaves_3, leaves_4, leaves_5]
  have hN : t.val < 128 := lt_of_lt_of_eq t.isLt (show cfg0.N = 128 from N_0)
  have hv := step_val t
  have n1 := isStore_iff t
  have n2 := isFirst_iff t
  have n3 := isFold_iff t
  have n4 := isSelect_iff t
  have n5 := isSum_iff t
  have n7 := isAdd_iff t
  have n8 := isLast_iff t
  unfold inv
  by_cases h0_0 : t.val % 16 = 0
  · skip
    have h1 : isStore (grid0.coords t) := n1.mpr (by omega)
    have h2 : isFirst (grid0.coords t) := n2.mpr (by omega)
    have h3 : ¬isFold (grid0.coords t) := fun h => by have := n3.mp h; omega
    have h4 : ¬isSelect (grid0.coords t) := fun h => by have := n4.mp h; omega
    have h5 : ¬isSum (grid0.coords t) := fun h => by have := n5.mp h; omega
    have h7 : ¬isAdd (grid0.coords t) := fun h => by have := n7.mp h; omega
    have h8 : ¬isLast (grid0.coords t) := fun h => by have := n8.mp h; omega
    rw [Dat.leavesExact_idle (dats m 0 c) 6 t (out_idle t (by omega)) (out_stay t (by omega))]
    iintro ⟨⟨%s, %p, %g, %acc, %th, %z, %hheld, S0, S1, S2, S3, S4, S5, Hg⟩, Ho, ⟨%d0, H0⟩, ⟨%d1, H1⟩, ⟨%d2, H2⟩, ⟨%d3, H3⟩, ⟨%d4, H4⟩, ⟨%d5, H5⟩, ⟨%d6, H6⟩⟩
    have hh : Held (cueBlock m c (t.val / 16)) (patChunk m c) (grid0.coords t 1).val s p g acc th z := by rw [hv]; exact hheld
    have hnext := hh.first (by omega)
    rw [hv] at hnext
    have hnext := held_next m hnext
    rw [← block0 m c t, ← block1 m c t (by omega)] at hnext
    iapply (runFirst c (grid0.coords t) _ _ _ _ _ _ _ _ _ _ _ _ _ h1 h2 h3 h4 h5 h7 h8 (iblk m c 0 t) (iblk m c 1 t) s p g Set.univ _)
    isplitl [H0]; · iexact H0
    isplitl [H1]; · iexact H1
    isplitl [S0]; · iexact S0
    isplitl [S1]; · iexact S1
    isplitl [S2]; · iexact S2
    iintro ⟨H0, H1, S0, S1, S2⟩
    isplitl [S0 S1 S2 S3 S4 S5 Hg]
    · iexists _, _, _, _, _, _
      isplitr
      · ipureintro; exact hnext
      isplitl [S0]; · iexact S0
      isplitl [S1]; · iexact S1
      isplitl [S2]; · iexact S2
      isplitl [S3]; · iexact S3
      isplitl [S4]; · iexact S4
      isplitl [S5]; · iexact S5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  by_cases h0_1 : 1 ≤ t.val % 16 ∧ t.val % 16 < 8
  · skip
    have h1 : isStore (grid0.coords t) := n1.mpr (by omega)
    have h2 : ¬isFirst (grid0.coords t) := fun h => by have := n2.mp h; omega
    have h3 : isFold (grid0.coords t) := n3.mpr (by omega)
    have h4 : ¬isSelect (grid0.coords t) := fun h => by have := n4.mp h; omega
    have h5 : ¬isSum (grid0.coords t) := fun h => by have := n5.mp h; omega
    have h7 : ¬isAdd (grid0.coords t) := fun h => by have := n7.mp h; omega
    have h8 : ¬isLast (grid0.coords t) := fun h => by have := n8.mp h; omega
    rw [Dat.leavesExact_idle (dats m 0 c) 6 t (out_idle t (by omega)) (out_stay t (by omega))]
    iintro ⟨⟨%s, %p, %g, %acc, %th, %z, %hheld, S0, S1, S2, S3, S4, S5, Hg⟩, Ho, ⟨%d0, H0⟩, ⟨%d1, H1⟩, ⟨%d2, H2⟩, ⟨%d3, H3⟩, ⟨%d4, H4⟩, ⟨%d5, H5⟩, ⟨%d6, H6⟩⟩
    have hh : Held (cueBlock m c (t.val / 16)) (patChunk m c) (grid0.coords t 1).val s p g acc th z := by rw [hv]; exact hheld
    have hnext := hh.fold h3 (by omega)
    rw [hv] at hnext
    have hnext := held_next m hnext
    rw [← block0 m c t, ← block1 m c t (by omega)] at hnext
    iapply (runFold c (grid0.coords t) _ _ _ _ _ _ _ _ _ _ _ _ _ h1 h2 h3 h4 h5 h7 h8 (iblk m c 0 t) (iblk m c 1 t) s p g Set.univ _)
    isplitl [H0]; · iexact H0
    isplitl [H1]; · iexact H1
    isplitl [S0]; · iexact S0
    isplitl [S1]; · iexact S1
    isplitl [S2]; · iexact S2
    iintro ⟨H0, H1, S0, S1, S2⟩
    isplitl [S0 S1 S2 S3 S4 S5 Hg]
    · iexists _, _, _, _, _, _
      isplitr
      · ipureintro; exact hnext
      isplitl [S0]; · iexact S0
      isplitl [S1]; · iexact S1
      isplitl [S2]; · iexact S2
      isplitl [S3]; · iexact S3
      isplitl [S4]; · iexact S4
      isplitl [S5]; · iexact S5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  by_cases h0_2 : t.val % 16 = 8
  · skip
    have h1 : ¬isStore (grid0.coords t) := fun h => by have := n1.mp h; omega
    have h2 : ¬isFirst (grid0.coords t) := fun h => by have := n2.mp h; omega
    have h3 : ¬isFold (grid0.coords t) := fun h => by have := n3.mp h; omega
    have h4 : isSelect (grid0.coords t) := n4.mpr (by omega)
    have h5 : isSum (grid0.coords t) := n5.mpr (by omega)
    have h7 : ¬isAdd (grid0.coords t) := fun h => by have := n7.mp h; omega
    have h8 : ¬isLast (grid0.coords t) := fun h => by have := n8.mp h; omega
    rw [Dat.leavesExact_idle (dats m 0 c) 6 t (out_idle t (by omega)) (out_stay t (by omega))]
    iintro ⟨⟨%s, %p, %g, %acc, %th, %z, %hheld, S0, S1, S2, S3, S4, S5, Hg⟩, Ho, ⟨%d0, H0⟩, ⟨%d1, H1⟩, ⟨%d2, H2⟩, ⟨%d3, H3⟩, ⟨%d4, H4⟩, ⟨%d5, H5⟩, ⟨%d6, H6⟩⟩
    have hh : Held (cueBlock m c (t.val / 16)) (patChunk m c) (grid0.coords t 1).val s p g acc th z := by rw [hv]; exact hheld
    have hnext := hh.select h5 (by omega)
    rw [hv] at hnext
    have hnext := held_next m hnext
    iapply (runSelect c (grid0.coords t) _ _ _ _ _ _ _ _ _ _ _ _ _ h1 h2 h3 h4 h5 h7 h8 s p g acc th z Set.univ _)
    isplitl [S0]; · iexact S0
    isplitl [S1]; · iexact S1
    isplitl [S2]; · iexact S2
    isplitl [S3]; · iexact S3
    isplitl [S4]; · iexact S4
    isplitl [S5]; · iexact S5
    iintro ⟨S0, S1, S2, S3, S4, S5⟩
    isplitl [S0 S1 S2 S3 S4 S5 Hg]
    · iexists _, _, _, _, _, _
      isplitr
      · ipureintro; exact hnext
      isplitl [S0]; · iexact S0
      isplitl [S1]; · iexact S1
      isplitl [S2]; · iexact S2
      isplitl [S3]; · iexact S3
      isplitl [S4]; · iexact S4
      isplitl [S5]; · iexact S5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  by_cases h0_3 : 9 ≤ t.val % 16 ∧ t.val % 16 < 15
  · skip
    have h1 : ¬isStore (grid0.coords t) := fun h => by have := n1.mp h; omega
    have h2 : ¬isFirst (grid0.coords t) := fun h => by have := n2.mp h; omega
    have h3 : ¬isFold (grid0.coords t) := fun h => by have := n3.mp h; omega
    have h4 : ¬isSelect (grid0.coords t) := fun h => by have := n4.mp h; omega
    have h5 : isSum (grid0.coords t) := n5.mpr (by omega)
    have h7 : isAdd (grid0.coords t) := n7.mpr (by omega)
    have h8 : ¬isLast (grid0.coords t) := fun h => by have := n8.mp h; omega
    rw [Dat.leavesExact_idle (dats m 0 c) 6 t (out_idle t (by omega)) (out_stay t (by omega))]
    iintro ⟨⟨%s, %p, %g, %acc, %th, %z, %hheld, S0, S1, S2, S3, S4, S5, Hg⟩, Ho, ⟨%d0, H0⟩, ⟨%d1, H1⟩, ⟨%d2, H2⟩, ⟨%d3, H3⟩, ⟨%d4, H4⟩, ⟨%d5, H5⟩, ⟨%d6, H6⟩⟩
    have hh : Held (cueBlock m c (t.val / 16)) (patChunk m c) (grid0.coords t 1).val s p g acc th z := by rw [hv]; exact hheld
    have hnext := hh.add h5 (by omega) (by omega)
    rw [hv] at hnext
    have hnext := held_next m hnext
    iapply (runAdd c (grid0.coords t) _ _ _ _ _ _ _ _ _ _ _ _ _ h1 h2 h3 h4 h5 h7 h8 s p acc th z Set.univ _)
    isplitl [S0]; · iexact S0
    isplitl [S1]; · iexact S1
    isplitl [S3]; · iexact S3
    isplitl [S4]; · iexact S4
    isplitl [S5]; · iexact S5
    iintro ⟨S0, S1, S3, S4, S5⟩
    isplitl [S0 S1 S2 S3 S4 S5 Hg]
    · iexists _, _, _, _, _, _
      isplitr
      · ipureintro; exact hnext
      isplitl [S0]; · iexact S0
      isplitl [S1]; · iexact S1
      isplitl [S2]; · iexact S2
      isplitl [S3]; · iexact S3
      isplitl [S4]; · iexact S4
      isplitl [S5]; · iexact S5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  have h1 : ¬isStore (grid0.coords t) := fun h => by have := n1.mp h; omega
  have h2 : ¬isFirst (grid0.coords t) := fun h => by have := n2.mp h; omega
  have h3 : ¬isFold (grid0.coords t) := fun h => by have := n3.mp h; omega
  have h4 : ¬isSelect (grid0.coords t) := fun h => by have := n4.mp h; omega
  have h5 : isSum (grid0.coords t) := n5.mpr (by omega)
  have h7 : isAdd (grid0.coords t) := n7.mpr (by omega)
  have h8 : isLast (grid0.coords t) := n8.mpr (by omega)
  rw [leaves_6 m c t (by omega)]
  iintro ⟨⟨%s, %p, %g, %acc, %th, %z, %hheld, S0, S1, S2, S3, S4, S5, Hg⟩, Ho, ⟨%d0, H0⟩, ⟨%d1, H1⟩, ⟨%d2, H2⟩, ⟨%d3, H3⟩, ⟨%d4, H4⟩, ⟨%d5, H5⟩, ⟨%d6, H6⟩⟩
  have hh : Held (cueBlock m c (t.val / 16)) (patChunk m c) (grid0.coords t 1).val s p g acc th z := by rw [hv]; exact hheld
  have hnext := hh.add h5 (by omega) (by omega)
  rw [hv] at hnext
  have hnext := held_next m hnext
  iapply (runLast c (grid0.coords t) _ _ _ _ _ _ _ _ _ _ _ _ _ h1 h2 h3 h4 h5 h7 h8 (iblk m c 0 t) (iblk m c 2 t) (iblk m c 3 t) (iblk m c 4 t) (iblk m c 5 t) _ s p acc th z Set.univ _)
  isplitl [H0]; · iexact H0
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S3]; · iexact S3
  isplitl [S4]; · iexact S4
  isplitl [S5]; · iexact S5
  iintro ⟨H0, H2, H3, H4, H5, H6, S0, S1, S3, S4, S5⟩
  isplitl [S0 S1 S2 S3 S4 S5 Hg]
  · iexists _, _, _, _, _, _
    isplitr
    · ipureintro; exact hnext
    isplitl [S0]; · iexact S0
    isplitl [S1]; · iexact S1
    isplitl [S2]; · iexact S2
    isplitl [S3]; · iexact S3
    isplitl [S4]; · iexact S4
    isplitl [S5]; · iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  have hout := hh.out h5 (by omega) (iblk m c 2 t) (iblk m c 3 t) (iblk m c 4 t) (iblk m c 5 t)
  rw [← block0 m c t] at hout
  rw [hout, block0, block2, block3, block4, block5]
  iexact H6

/-- The body table's row at point `t`'s slots is the body. -/
theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The launch gives the invariant before the first point. -/
theorem inv_in (c : Dev nD) : Pipeline.ΦA spec0 c ⊢ (dats m 0 c).Φ 0 := by
  rw [show (dats m 0 c).Φ 0 = inv m c 0 from rfl, scratch_eq]
  unfold inv
  iintro ⟨⟨⟨%s, S0⟩, ⟨%p, S1⟩, ⟨%g, S2⟩, ⟨%acc, S3⟩, ⟨%th, S4⟩, ⟨%z, S5⟩⟩, Hg⟩
  iexists s, p, g, acc, th, z
  isplitr
  · ipureintro; exact Held.start
  isplitl [S0]; · iexact S0
  isplitl [S1]; · iexact S1
  isplitl [S2]; · iexact S2
  isplitl [S3]; · iexact S3
  isplitl [S4]; · iexact S4
  isplitl [S5]; · iexact S5
  iexact Hg

/-- After the last point the invariant gives the scratch buffers back. -/
theorem inv_out (c : Dev nD) : (dats m 0 c).Φ (Fin.last cfg0.N) ⊢ Pipeline.ΦA spec0 c := by
  rw [show (dats m 0 c).Φ (Fin.last cfg0.N) = inv m c cfg0.N from rfl, scratch_eq]
  unfold inv
  iintro ⟨%s, %p, %g, %acc, %th, %z, %hheld, S0, S1, S2, S3, S4, S5, Hg⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

-- the launch theorem's implicit arguments are found by unifying its conclusion with this one
set_option backward.isDefEq.respectTransparency.types false in
/-- The whole run: the arrays end as the proof data says, and every counter is at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The run without the counters. -/
theorem run_post : θ_run defs (onTc (τ := τ) (main (F := F))) (s₀ m ρ) (Pipeline.FramePost cfgs (dats m) 0 (V m)) :=
  (θ_run defs _ _).mono (fun _ h => h.1) (run_quiescent m ρ)

/-- The frame: the run ends, the arguments are unchanged, every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) (run_post m ρ)) ((θ_run defs _ _).mono (fun _ h => h.2) (run_quiescent m ρ))

end Cert.KernelIdeal.Recall

end
-- ==== Proof.Frames.lean ====
/- The frames of the three programs: each runs to its end, leaves its arguments as they were, and ends with every counter
   at zero. The compiled kernel's is the idealized kernel's at the machine's float values: the two print the same text. -/
module

public import proofs.«01_k».proof.Defs
public import proofs.«01_k».proof.Proof.Body
public import proofs.«01_k».proof.Proof.Gen.Kernel.Frame
public import proofs.«01_k».proof.Proof.Gen.ReferenceIdeal.Run

@[expose] public section

set_option Elab.async false

noncomputable section

namespace Cert.Frames

open Idealize.ShloMosaic Idealize.ShloMosaic.TcCoe Idealize.SL.Sem

section Same
set_option maxRecDepth 65536
set_option maxHeartbeats 4000000
variable {F : FTy → Type} [FloatOps F]

/-- The two kernels' body tables are one. -/
theorem bodies_same : Cert.Kernel.defs₀ (F := F) = Cert.KernelIdeal.defs₀ (F := F) := by
  refine congrArg (Defs.onTc (nD := Cert.KernelIdeal.nD) (τ := Cert.KernelIdeal.τ) (sig := Cert.KernelIdeal.sig) (Λ := Cert.KernelIdeal.Λ₀)) ?_
  funext l a
  match l, a with
  | ⟨0, _⟩, (t, s) => with_unfolding_all rfl

/-- So are their tables of bodies and pipelines. -/
theorem tables_same : Cert.Kernel.defs (F := F) = Cert.KernelIdeal.defs (F := F) :=
  congrArg (Pipeline.defs (Cert.KernelIdeal.pcfgs (F := F))) bodies_same

end Same

set_option maxRecDepth 65536 in
set_option maxHeartbeats 4000000 in
/-- The compiled kernel's frame. -/
theorem kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [tables_same]
  with_unfolding_all exact Cert.KernelIdeal.Recall.frame (F := Bits) m g

/-- The reference's frame. It has no counters at all. -/
theorem reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2, sem_eq_zero_of_no_sems (by decide) r.2⟩) (Cert.ReferenceIdeal.Value.run m g)

end Cert.Frames

end
-- ==== Proof.Chains.lean ====
/- The folding of a chunk into the table, and the eight rounds that read the threshold, as repetitions of one step on
   whole arrays: eight insertions of a column block into the four rows kept per lane, and eight removals of the largest
   entry of every row. -/
module

public import proofs.«01_k».proof.Proof.Invariant

@[expose] public section

set_option Elab.async false

noncomputable section

namespace Cert.KernelIdeal.Recall

open Idealize.ShloMosaic Idealize.ShloMosaic.TcCoe Idealize.SL.Sem
open Cert.KernelIdeal.Gen

variable {F : FTy → Type} [FloatOps F]

/-- One 512 by 128 array. -/
abbrev Lanes (F : FTy → Type) : Type := FVec F S512x128 .f32

/-- The first array after `x` is inserted: the larger entry. -/
def putTop (x a : Lanes F) : Lanes F := select (cmpf .oge x a) x a

/-- A later array after `x` is inserted, `b` the array before it: what `x` displaces from `b`, or `x`, or itself. -/
def putNext (x b c : Lanes F) : Lanes F := select (cmpf .oge x c) (select (cmpf .oge x b) b x) c

theorem putTop_fold (x a : Lanes F) : select (cmpf .oge x a) x a = putTop x a := rfl
theorem putNext_fold (x b c : Lanes F) : select (cmpf .oge x c) (select (cmpf .oge x b) b x) c = putNext x b c := rfl

/-- The four arrays after one array is inserted. -/
def insertStep (x : Lanes F) (g : Lanes F × Lanes F × Lanes F × Lanes F) : Lanes F × Lanes F × Lanes F × Lanes F :=
  (putTop x g.1, putNext x g.1 g.2.1, putNext x g.2.1 g.2.2.1, putNext x g.2.2.1 g.2.2.2)

/-- The four arrays after the first `n` of a sequence are inserted. -/
def insertAll (x : ℕ → Lanes F) (g : Lanes F × Lanes F × Lanes F × Lanes F) : ℕ → Lanes F × Lanes F × Lanes F × Lanes F
  | 0 => g
  | n + 1 => insertStep (x n) (insertAll x g n)

/-- The eight column blocks of a chunk of similarities. -/
def colBlock (sb : Vec F S1x512x1024 .f32) : ℕ → Lanes F
  | 0 => k0_pay21 sb
  | 1 => k0_pay28 sb
  | 2 => extractStridedSlice S512x128 ![0, 256] (k0_pay17 sb) slices_S512x1024_o0_256_S512x128
  | 3 => k0_pay43 (k0_pay17 sb)
  | 4 => extractStridedSlice S512x128 ![0, 512] (k0_pay17 sb) slices_S512x1024_o0_512_S512x128
  | 5 => extractStridedSlice S512x128 ![0, 640] (k0_pay17 sb) slices_S512x1024_o0_640_S512x128
  | 6 => extractStridedSlice S512x128 ![0, 768] (k0_pay17 sb) slices_S512x1024_o0_768_S512x128
  | _ => extractStridedSlice S512x128 ![0, 896] (k0_pay17 sb) slices_S512x1024_o0_896_S512x128

/-- The four rows of a table as arrays of two axes. -/
def rowsOf (a b c d : Vec F S1x512x128 .f32) : Lanes F × Lanes F × Lanes F × Lanes F :=
  (k0_pay18 a, k0_pay18 b, k0_pay18 c, k0_pay18 d)

section Fold
variable (sb : Vec F S1x512x1024 .f32) (a b c d : Vec F S1x512x128 .f32)

/-- The rows a store step writes are the four arrays after eight insertions. -/
theorem foldRows_eq :
    foldRow0 sb a
    = shapeCast S1x512x128 (insertAll (colBlock sb) (rowsOf a b c d) 8).1 shapeCasts_S512x128_S1x512x128
    ∧ foldRow1 sb a b
    = shapeCast S1x512x128 (insertAll (colBlock sb) (rowsOf a b c d) 8).2.1 shapeCasts_S512x128_S1x512x128
    ∧ foldRow2 sb a b c
    = shapeCast S1x512x128 (insertAll (colBlock sb) (rowsOf a b c d) 8).2.2.1 shapeCasts_S512x128_S1x512x128
    ∧ foldRow3 sb a b c d
    = shapeCast S1x512x128 (insertAll (colBlock sb) (rowsOf a b c d) 8).2.2.2 shapeCasts_S512x128_S1x512x128 := by
  refine ⟨?_, ?_, ?_, ?_⟩ <;>
  simp only [foldRow0, foldRow1, foldRow2, foldRow3, insertAll, insertStep, colBlock, rowsOf, putTop_fold, putNext_fold, k0_pay4,
    k0_pay5, k0_pay6, k0_pay7, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76]
/-- So are the rows the selecting step writes. -/
theorem lastRows_eq :
    lastRow0 sb a
    = shapeCast S1x512x128 (insertAll (colBlock sb) (rowsOf a b c d) 8).1 shapeCasts_S512x128_S1x512x128
    ∧ lastRow1 sb a b
    = shapeCast S1x512x128 (insertAll (colBlock sb) (rowsOf a b c d) 8).2.1 shapeCasts_S512x128_S1x512x128
    ∧ lastRow2 sb a b c
    = shapeCast S1x512x128 (insertAll (colBlock sb) (rowsOf a b c d) 8).2.2.1 shapeCasts_S512x128_S1x512x128
    ∧ lastRow3 sb a b c d
    = shapeCast S1x512x128 (insertAll (colBlock sb) (rowsOf a b c d) 8).2.2.2 shapeCasts_S512x128_S1x512x128 := by
  refine ⟨?_, ?_, ?_, ?_⟩ <;>
  simp only [lastRow0, lastRow1, lastRow2, lastRow3, insertAll, insertStep, colBlock, rowsOf, putTop_fold, putNext_fold,
    k0_pay77, k0_pay78, k0_pay79, k0_pay80, k0_pay81, k0_pay82, k0_pay83, k0_pay84, k0_pay85, k0_pay86, k0_pay87,
    k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118,
    k0_pay119, k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137, k0_pay138,
    k0_pay139, k0_pay140, k0_pay141, k0_pay17, k0_pay18, k0_pay19, k0_pay20, k0_pay21, k0_pay28, k0_pay43]

end Fold

/-- The largest entry of each row. -/
def rowMax (a : Lanes F) : FVec F S512x1 .f32 :=
  shapeCast S512x1 (multiReduction .maximumf [1] S512 a 0xFF800000#32 reduces_S512x128_S512 (.inl rfl) rfl) shapeCasts_S512_S512x1

/-- Where a row attains its largest entry. -/
def isMax (a : Lanes F) : IVec S512x128 1 := cmpf .oge a (broadcastTo S512x128 (rowMax a) broadcasts_S512x1_S512x128)

/-- The four arrays after the largest entry of every row is removed, the lane's next ones moving up. -/
def removeStep (g : Lanes F × Lanes F × Lanes F × Lanes F) : Lanes F × Lanes F × Lanes F × Lanes F :=
  (select (isMax g.1) g.2.1 g.1, select (isMax g.1) g.2.2.1 g.2.1, select (isMax g.1) g.2.2.2 g.2.2.1,
   select (isMax g.1) (broadcast S512x128 (Scalar.ofBits .f32 0xFF800000#32)) g.2.2.2)

/-- The four arrays after `n` removals. -/
def removeAll (g : Lanes F × Lanes F × Lanes F × Lanes F) : ℕ → Lanes F × Lanes F × Lanes F × Lanes F
  | 0 => g
  | n + 1 => removeStep (removeAll g n)

theorem threshold_eq (g : Vec F S4x512x128 .f32) : threshold g
    = k0_pay8 (rowMax (removeAll (rowsOf (tableRow0 g) (tableRow1 g) (tableRow2 g) (tableRow3 g)) 7).1) := rfl

end Cert.KernelIdeal.Recall
-- ==== Proof.LaneTop.lean ====
/- The four largest entries of a lane, kept in order, and the reading of the eighth largest entry of a row from them.
   Nothing here mentions the kernel: entries are members of a linear order with a least element. A quadruple stands for
   what a lane holds; `count x g` is how many of its four entries are at least `x`. Inserting an entry into a sorted
   quadruple adds one to that count, up to four. Removing a row's largest entry eight times over meets the eight
   largest entries in order, provided no lane holds more than four of them. -/
module

public import Mathlib.Order.Lattice
public import Mathlib.Order.BoundedOrder.Basic
public import Mathlib.Data.Finset.Lattice.Fold
public import Mathlib.Data.Finset.Card
public import Mathlib.Data.Fintype.Basic
public import Mathlib.Order.Interval.Finset.Nat
public import Mathlib.Tactic.Order
public import Mathlib.Tactic.SplitIfs

@[expose] public section

namespace LaneTop

variable {α : Type} [LinearOrder α]

/-- How many of the four entries are at least `x`. -/
def count (x : α) (g : α × α × α × α) : ℕ :=
  (if x ≤ g.1 then 1 else 0) + (if x ≤ g.2.1 then 1 else 0) + (if x ≤ g.2.2.1 then 1 else 0) + (if x ≤ g.2.2.2 then 1 else 0)

/-- The entries are in decreasing order. -/
def Sorted (g : α × α × α × α) : Prop := g.2.1 ≤ g.1 ∧ g.2.2.1 ≤ g.2.1 ∧ g.2.2.2 ≤ g.2.2.1

/-- Insert `x`: entries below it move down one place and the last is dropped. -/
def insert (x : α) (g : α × α × α × α) : α × α × α × α :=
  (if g.1 ≤ x then x else g.1,
   if g.2.1 ≤ x then (if g.1 ≤ x then g.1 else x) else g.2.1,
   if g.2.2.1 ≤ x then (if g.2.1 ≤ x then g.2.1 else x) else g.2.2.1,
   if g.2.2.2 ≤ x then (if g.2.2.1 ≤ x then g.2.2.1 else x) else g.2.2.2)

theorem Sorted.insert {g : α × α × α × α} (h : Sorted g) (x : α) : Sorted (insert x g) := by
  obtain ⟨a, b, c, d⟩ := g
  obtain ⟨h1, h2, h3⟩ := h
  simp only at h1 h2 h3
  refine ⟨?_, ?_, ?_⟩ <;> simp only [LaneTop.insert] <;> split_ifs <;> order

/-- One if `v` is at most `z`, and otherwise zero. -/
def below (v z : α) : ℕ := if v ≤ z then 1 else 0

theorem below_le_one (v z : α) : below v z ≤ 1 := by unfold below; split_ifs <;> omega

theorem below_mono (v : α) {y z : α} (h : y ≤ z) : below v y ≤ below v z := by
  unfold below
  by_cases hy : v ≤ y
  · rw [if_pos hy, if_pos (hy.trans h)]
  · rw [if_neg hy]
    exact Nat.zero_le _

theorem count_insert {g : α × α × α × α} (h : Sorted g) (x v : α) :
    count v (insert x g) = min 4 (count v g + if v ≤ x then 1 else 0) := by
  obtain ⟨a, b, c, d⟩ := g
  obtain ⟨h1, h2, h3⟩ := h
  simp only at h1 h2 h3
  have e1 := below_mono v h1
  have e2 := below_mono v h2
  have e3 := below_mono v h3
  have ea := below_le_one v a
  have ex := below_le_one v x
  show below v _ + below v _ + below v _ + below v _ = min 4 (below v a + below v b + below v c + below v d + below v x)
  rcases le_or_gt a x with pa | pa
  · have := below_mono v pa
    simp only [LaneTop.insert, pa, h1.trans pa, h2.trans (h1.trans pa), h3.trans (h2.trans (h1.trans pa)), if_true]
    omega
  have := below_mono v pa.le
  rcases le_or_gt b x with pb | pb
  · have := below_mono v pb
    simp only [LaneTop.insert, pa.not_ge, pb, h2.trans pb, h3.trans (h2.trans pb), if_true, if_false]
    omega
  have := below_mono v pb.le
  rcases le_or_gt c x with pc | pc
  · have := below_mono v pc
    simp only [LaneTop.insert, pa.not_ge, pb.not_ge, pc, h3.trans pc, if_true, if_false]
    omega
  have := below_mono v pc.le
  rcases le_or_gt d x with pd | pd
  · have := below_mono v pd
    simp only [LaneTop.insert, pa.not_ge, pb.not_ge, pc.not_ge, pd, if_true, if_false]
    omega
  · have := below_mono v pd.le
    simp only [LaneTop.insert, pa.not_ge, pb.not_ge, pc.not_ge, pd.not_ge, if_false]
    omega

/-- A sequence's first `n` entries inserted one after another. -/
def insertSeq (x : ℕ → α) (g : α × α × α × α) : ℕ → α × α × α × α
  | 0 => g
  | n + 1 => insert (x n) (insertSeq x g n)

theorem Sorted.insertSeq {g : α × α × α × α} (h : Sorted g) (x : ℕ → α) (n : ℕ) : Sorted (insertSeq x g n) := by
  induction n with
  | zero => exact h
  | succ n ih => exact ih.insert _

theorem count_insertSeq {g : α × α × α × α} (h : Sorted g) (x : ℕ → α) (v : α) (n : ℕ) :
    count v (insertSeq x g n) = min 4 (count v g + ((Finset.range n).filter fun m => v ≤ x m).card) := by
  induction n with
  | zero =>
    have : count v g ≤ 4 := by unfold count; split_ifs <;> omega
    simp only [insertSeq, Finset.range_zero, Finset.filter_empty, Finset.card_empty]
    omega
  | succ n ih =>
    rw [insertSeq, count_insert (h.insertSeq x n), ih, Finset.range_add_one, Finset.filter_insert]
    split_ifs with hv
    · rw [Finset.card_insert_of_notMem (by simp)]
      omega
    · omega

/-- Inserting depends only on the entries inserted. -/
theorem insertSeq_congr {x x' : ℕ → α} (g : α × α × α × α) (n : ℕ) (h : ∀ i, i < n → x i = x' i) :
    insertSeq x g n = insertSeq x' g n := by
  induction n with
  | zero => rfl
  | succ n ih => rw [insertSeq, insertSeq, h n (by omega), ih fun i hi => h i (by omega)]

/-- Inserting in two stretches. -/
theorem insertSeq_add (x : ℕ → α) (g : α × α × α × α) (m n : ℕ) :
    insertSeq x g (m + n) = insertSeq (fun i => x (m + i)) (insertSeq x g m) n := by
  induction n with
  | zero => rfl
  | succ n ih => rw [← Nat.add_assoc, insertSeq, insertSeq, ih]

variable [OrderBot α]

/-- Remove the first entry if it is at least `m`. -/
def pop (m : α) (g : α × α × α × α) : α × α × α × α :=
  (if m ≤ g.1 then g.2.1 else g.1, if m ≤ g.1 then g.2.2.1 else g.2.1, if m ≤ g.1 then g.2.2.2 else g.2.2.1,
   if m ≤ g.1 then ⊥ else g.2.2.2)

theorem Sorted.pop {g : α × α × α × α} (h : Sorted g) (m : α) : Sorted (pop m g) := by
  obtain ⟨a, b, c, d⟩ := g
  obtain ⟨h1, h2, h3⟩ := h
  refine ⟨?_, ?_, ?_⟩ <;> simp only [LaneTop.pop] <;> split_ifs <;> first | assumption | exact bot_le

theorem count_pop {g : α × α × α × α} (m : α) {v : α} (hv : ⊥ < v) :
    count v (pop m g) + (if m ≤ g.1 ∧ v ≤ g.1 then 1 else 0) = count v g := by
  obtain ⟨a, b, c, d⟩ := g
  have : ¬ v ≤ ⊥ := not_le.mpr hv
  by_cases hm : m ≤ a
  · simp only [count, LaneTop.pop, hm, if_true, this, if_false, true_and]
    omega
  · simp only [count, LaneTop.pop, hm, if_false, false_and, add_zero]

theorem count_pos {g : α × α × α × α} (h : Sorted g) {v : α} : 0 < count v g ↔ v ≤ g.1 := by
  obtain ⟨a, b, c, d⟩ := g
  obtain ⟨h1, h2, h3⟩ := h
  simp only at h1 h2 h3
  constructor
  · intro hc
    by_contra hn
    have hb : ¬ v ≤ b := fun q => hn (q.trans h1)
    have hc' : ¬ v ≤ c := fun q => hb (q.trans h2)
    have hd : ¬ v ≤ d := fun q => hc' (q.trans h3)
    have hn' : ¬ v ≤ a := hn
    simp [count, hn', hb, hc', hd] at hc
  · intro q
    have q' : v ≤ a := q
    simp only [count, q', if_true]
    omega

variable {ι : Type} [Fintype ι] [DecidableEq ι]

/-- Every lane's quadruple after `n` removals of the row's largest entry. -/
def popSeq (G : ι → α × α × α × α) : ℕ → ι → α × α × α × α
  | 0 => G
  | n + 1 => fun l => pop (Finset.univ.sup fun l' => (popSeq G n l').1) (popSeq G n l)

/-- What holds after `r` removals: above the floor, a lane counts exactly its own among the entries not yet removed. -/
def Rest (v : ℕ → α) (lane : ℕ → ι) (f : α) (r : ℕ) (G : ι → α × α × α × α) : Prop :=
  ∀ l, Sorted (G l) ∧ ∀ x, f < x → count x (G l) = ((Finset.Ico r 8).filter fun k => lane k = l ∧ x ≤ v k).card

section Rounds
variable {v : ℕ → α} {lane : ℕ → ι} {f : α} {r : ℕ} {G : ι → α × α × α × α}

theorem Rest.le_first (h : Rest v lane f r G) {l : ι} {x : α} (hx : f < x) :
    x ≤ (G l).1 ↔ ∃ k, r ≤ k ∧ k < 8 ∧ lane k = l ∧ x ≤ v k := by
  rw [← count_pos (h l).1, (h l).2 x hx, Finset.card_pos]
  constructor
  · rintro ⟨k, hk⟩
    rw [Finset.mem_filter, Finset.mem_Ico] at hk
    exact ⟨k, hk.1.1, hk.1.2, hk.2⟩
  · rintro ⟨k, h1, h2, h3⟩
    exact ⟨k, Finset.mem_filter.mpr ⟨Finset.mem_Ico.mpr ⟨h1, h2⟩, h3⟩⟩

variable (hv : ∀ j k, j < k → k < 8 → v k < v j) (hf : ∀ k, k < 8 → f < v k)
include hv hf

/-- The row's largest entry is the next of the eight. -/
theorem Rest.sup_eq (h : Rest v lane f r G) (hr : r < 8) : (Finset.univ.sup fun l => (G l).1) = v r := by
  apply le_antisymm
  · refine Finset.sup_le fun l _ => ?_
    by_contra hn
    have hn := not_le.mp hn
    obtain ⟨k, h1, h2, -, h4⟩ := (h.le_first ((hf r hr).trans hn)).mp (le_refl (G l).1)
    rcases Nat.eq_or_lt_of_le h1 with rfl | h1
    · exact absurd h4 (not_le.mpr hn)
    · exact absurd (h4.trans (hv r k h1 h2).le) (not_le.mpr hn)
  · exact ((h.le_first (hf r hr)).mpr ⟨r, le_refl r, hr, rfl, le_refl _⟩).trans
      (Finset.le_sup (f := fun l => (G l).1) (Finset.mem_univ (lane r)))

theorem Rest.first_iff (h : Rest v lane f r G) (hr : r < 8) (l : ι) : v r ≤ (G l).1 ↔ lane r = l := by
  rw [h.le_first (hf r hr)]
  constructor
  · rintro ⟨k, h1, h2, h3, h4⟩
    rcases Nat.eq_or_lt_of_le h1 with rfl | h1
    · exact h3
    · exact absurd h4 (not_le.mpr (hv r k h1 h2))
  · intro hl
    exact ⟨r, le_refl r, hr, hl, le_refl _⟩

theorem Rest.pop (h : Rest v lane f r G) (hr : r < 8) :
    Rest v lane f (r + 1) fun l => LaneTop.pop (Finset.univ.sup fun l' => (G l').1) (G l) := by
  intro l
  refine ⟨(h l).1.pop _, fun x hx => ?_⟩
  have hc := count_pop (g := G l) (Finset.univ.sup fun l' => (G l').1) (lt_of_le_of_lt bot_le hx)
  have hm := h.sup_eq hv hf hr
  rw [hm] at hc ⊢
  rw [(h l).2 x hx, Finset.Ico_eq_cons_Ioo hr, Finset.filter_cons] at hc
  have hI : Finset.Ico (r + 1) 8 = Finset.Ioo r 8 := by ext k; simp only [Finset.mem_Ico, Finset.mem_Ioo]; omega
  rw [hI]
  have hfirst := h.first_iff hv hf hr l
  have key : (v r ≤ (G l).1 ∧ x ≤ (G l).1) ↔ (lane r = l ∧ x ≤ v r) := by
    rw [hfirst]
    refine and_congr_right fun hl => ?_
    constructor
    · intro hxl
      refine hxl.trans ?_
      rw [← hm]
      exact Finset.le_sup (f := fun l => (G l).1) (Finset.mem_univ l)
    · intro hxv
      exact hxv.trans (hfirst.mpr hl)
  show count x (LaneTop.pop (v r) (G l)) = _
  by_cases hk : lane r = l ∧ x ≤ v r
  · rw [if_pos (key.mpr hk), if_pos hk, Finset.card_cons] at hc
    omega
  · rw [if_neg (fun q => hk (key.mp q)), if_neg hk] at hc
    omega

/-- The largest entry met after seven removals is the eighth of the eight. -/
theorem Rest.popSeq (h : Rest v lane f 0 G) (n : ℕ) (hn : n ≤ 8) : Rest v lane f n (popSeq G n) := by
  induction n with
  | zero => exact h
  | succ n ih => exact (ih (by omega)).pop hv hf (by omega)

theorem Rest.threshold (h : Rest v lane f 0 G) : (Finset.univ.sup fun l => (LaneTop.popSeq G 7 l).1) = v 7 :=
  (h.popSeq hv hf 7 (by omega)).sup_eq hv hf (by omega)

end Rounds

end LaneTop
-- ==== Proof.TopEight.lean ====
/- The eight largest of 8192 entries, spread over 128 lanes with at most four to a lane: folding the entries into the
   lanes' quadruples and removing the largest entry seven times leaves the eighth largest as the largest, and the
   entries at least as large as it are the eight. -/
module

public import proofs.«01_k».proof.Proof.LaneTop
public import Mathlib.Algebra.BigOperators.Fin
public import Mathlib.Algebra.BigOperators.Group.Finset.Basic

@[expose] public section

namespace LaneTop

variable {α : Type} [LinearOrder α]

/-- `idx 0, …, idx 8` are the positions of the nine largest of the 8192 entries `s`, from the largest down, no two of
    these entries equal, and at most four of the first eight positions agree modulo 128. -/
structure TopEight (s : ℕ → α) (idx : ℕ → ℕ) : Prop where
  lt : ∀ k, k < 9 → idx k < 8192
  anti : ∀ j k, j < k → k < 9 → s (idx k) < s (idx j)
  rest : ∀ n, n < 8192 → (∃ k, k < 8 ∧ idx k = n) ∨ s n ≤ s (idx 8)
  spread : ∀ k, k < 8 → ((Finset.range 8).filter fun j => idx j % 128 = idx k % 128).card ≤ 4

namespace TopEight
variable {s : ℕ → α} {idx : ℕ → ℕ} (h : TopEight s idx)
include h

theorem inj {j k : ℕ} (hj : j < 9) (hk : k < 9) (e : idx j = idx k) : j = k := by
  rcases lt_trichotomy j k with q | q | q
  · exact absurd (h.anti j k q hk) (by rw [e]; exact lt_irrefl _)
  · exact q
  · exact absurd (h.anti k j q hj) (by rw [e]; exact lt_irrefl _)

/-- Above the ninth entry, the large entries are among the eight. -/
theorem mem_of_lt {n : ℕ} (hn : n < 8192) {x : α} (hx : s (idx 8) < x) (hs : x ≤ s n) : ∃ k, k < 8 ∧ idx k = n :=
  (h.rest n hn).resolve_right fun q => absurd (hs.trans q) (not_le.mpr hx)

/-- At most four of the eight lie in a lane. -/
theorem lane_card_le (l : ℕ) : ((Finset.range 8).filter fun k => idx k % 128 = l).card ≤ 4 := by
  rcases Finset.eq_empty_or_nonempty ((Finset.range 8).filter fun k => idx k % 128 = l) with e | ⟨k, hk⟩
  · rw [e]
    exact Nat.zero_le _
  · obtain ⟨h1, rfl⟩ := Finset.mem_filter.mp hk
    exact h.spread k (Finset.mem_range.mp h1)

/-- A lane's large entries are its own among the eight. -/
theorem lane_count {l : ℕ} (hl : l < 128) {x : α} (hx : s (idx 8) < x) :
    ((Finset.range 64).filter fun m => x ≤ s (128 * m + l)).card
      = ((Finset.range 8).filter fun k => idx k % 128 = l ∧ x ≤ s (idx k)).card := by
  symm
  refine Finset.card_bij (fun k _ => idx k / 128) ?_ ?_ ?_
  · intro k hk
    obtain ⟨h1, h2, h3⟩ := Finset.mem_filter.mp hk
    have h1 := Finset.mem_range.mp h1
    have := h.lt k (by omega)
    refine Finset.mem_filter.mpr ⟨Finset.mem_range.mpr (by omega), ?_⟩
    have e : 128 * (idx k / 128) + l = idx k := by omega
    rw [e]
    exact h3
  · intro j hj k hk e
    obtain ⟨j1, j2, -⟩ := Finset.mem_filter.mp hj
    obtain ⟨k1, k2, -⟩ := Finset.mem_filter.mp hk
    have j1 := Finset.mem_range.mp j1
    have k1 := Finset.mem_range.mp k1
    exact h.inj (by omega) (by omega) (by omega)
  · intro m hm
    obtain ⟨h1, h2⟩ := Finset.mem_filter.mp hm
    have h1 := Finset.mem_range.mp h1
    obtain ⟨k, hk, e⟩ := h.mem_of_lt (n := 128 * m + l) (by omega) hx h2
    refine ⟨k, Finset.mem_filter.mpr ⟨Finset.mem_range.mpr hk, by omega, ?_⟩, by omega⟩
    rw [e]
    exact h2

variable [OrderBot α]

/-- The lanes' quadruples, with every entry folded in. -/
def _root_.LaneTop.lanes (s : ℕ → α) (l : Fin 128) : α × α × α × α :=
  insertSeq (fun m => s (128 * m + l)) (⊥, ⊥, ⊥, ⊥) 64

/-- Before any removal every lane counts its own among the eight. -/
theorem start : Rest (fun k => s (idx k)) (fun k => (⟨idx k % 128, Nat.mod_lt _ (by omega)⟩ : Fin 128)) (s (idx 8)) 0
    (LaneTop.lanes s) := by
  have hbot : Sorted ((⊥, ⊥, ⊥, ⊥) : α × α × α × α) := ⟨le_refl _, le_refl _, le_refl _⟩
  intro l
  refine ⟨hbot.insertSeq _ _, fun x hx => ?_⟩
  have hx0 : ¬ x ≤ (⊥ : α) := not_le.mpr (lt_of_le_of_lt bot_le hx)
  have hc : count x ((⊥, ⊥, ⊥, ⊥) : α × α × α × α) = 0 := by simp only [count, hx0, if_false]
  have hle := h.lane_card_le l
  have hsub : ((Finset.range 8).filter fun k => idx k % 128 = l ∧ x ≤ s (idx k)).card
      ≤ ((Finset.range 8).filter fun k => idx k % 128 = l).card :=
    Finset.card_le_card fun k hk => by
      obtain ⟨h1, h2, -⟩ := Finset.mem_filter.mp hk
      exact Finset.mem_filter.mpr ⟨h1, h2⟩
  rw [LaneTop.lanes, count_insertSeq hbot, hc, Nat.zero_add, h.lane_count l.isLt hx, Nat.min_eq_right (hsub.trans hle),
    ← Finset.range_eq_Ico]
  simp only [Fin.ext_iff]

/-- The threshold is the eighth entry. -/
theorem threshold : (Finset.univ.sup fun l => (popSeq (LaneTop.lanes s) 7 l).1) = s (idx 7) :=
  h.start.threshold (fun j k hjk hk => h.anti j k hjk (by omega)) fun k hk => h.anti k 8 (by omega) (by omega)

/-- The entries at least the threshold are the eight: a sum over them is the sum over the eight positions. -/
theorem sum_ge {M : Type} [AddCommMonoid M] (f : ℕ → M) :
    (∑ n ∈ Finset.range 8192, if s (idx 7) ≤ s n then f n else 0) = ∑ k ∈ Finset.range 8, f (idx k) := by
  rw [← Finset.sum_filter]
  symm
  refine Finset.sum_bij (fun k _ => idx k) ?_ ?_ ?_ fun _ _ => rfl
  · intro k hk
    have hk := Finset.mem_range.mp hk
    refine Finset.mem_filter.mpr ⟨Finset.mem_range.mpr (h.lt k (by omega)), ?_⟩
    rcases Nat.eq_or_lt_of_le (show k ≤ 7 by omega) with e | q
    · rw [e]
    · exact (h.anti k 7 q (by omega)).le
  · intro j hj k hk e
    have hj := Finset.mem_range.mp hj
    have hk := Finset.mem_range.mp hk
    exact h.inj (by omega) (by omega) e
  · intro n hn
    obtain ⟨h1, h2⟩ := Finset.mem_filter.mp hn
    obtain ⟨k, hk, e⟩ := h.mem_of_lt (Finset.mem_range.mp h1) (h.anti 7 8 (by omega) (by omega)) h2
    exact ⟨k, Finset.mem_range.mpr hk, e⟩

end TopEight

end LaneTop
-- ==== Proof.KernelRead.lean ====
/- The kernel's arithmetic over the extended reals, read entry by entry. -/
module

public import proofs.«01_k».proof.Proof.Chains
public import proofs.«01_k».proof.Proof.TopEight
public import Idealize.ShloMosaic.Lib.Pointwise

@[expose] public section

set_option Elab.async false

noncomputable section

namespace Cert.KernelIdeal.Recall

open Idealize.ShloMosaic Idealize.ShloMosaic.TcCoe Idealize.SL.Sem
open Cert.KernelIdeal.Gen

/-- The small constant that keeps a norm away from zero. -/
def eps : EReal := Ideal.ofBits .f32 0x2B8CBCCC#32

/-- A cue divided by its norm. -/
def unitCue (cue : Fin 512 → EReal) (d : Fin 512) : EReal :=
  Ideal.div (cue d) (max (Ideal.sqrt (∑ e : Fin 512, cue e * cue e)) eps)

/-- The similarity of a cue with pattern `n`. -/
def score (cue : Fin 512 → EReal) (P : ℕ → Fin 512 → EReal) (n : ℕ) : EReal := ∑ d : Fin 512, unitCue cue d * P n d

theorem negInf_eq : Ideal.ofBits .f32 0xFF800000#32 = ⊥ := by simp [Ideal.ofBits, Ideal.ieee]

theorem pay1_apply (cue : FVec Ideal S512x512 .f32) (P : FVec Ideal S1024x512 .f32) (y : Fin 512) (n : Fin 1024) :
    k0_pay1 (F := Ideal) cue P (ix3 0 y n) = ∑ d : Fin 512, unitCue (fun e => cue (ix2 y e)) d * P (ix2 n d) := by
  pointwise [k0_pay1]
  rfl

theorem pay2_apply (P : FVec Ideal S1024x512 .f32) (n : Fin 1024) (d : Fin 512) :
    k0_pay2 (F := Ideal) P (ix3 0 n d) = P (ix2 n d) := by
  pointwise [k0_pay2]

theorem pay3_apply (k : Fin 4) (n : Fin 512) (d : Fin 128) :
    k0_pay3 (F := Ideal) (ix3 k n d) = (⊥ : EReal) := by
  pointwise [k0_pay3]
  exact negInf_eq

theorem pay18_apply (a : FVec Ideal S1x512x128 .f32) (y : Fin 512) (l : Fin 128) :
    k0_pay18 (F := Ideal) a (ix2 y l) = a (ix3 0 y l) := by
  pointwise [k0_pay18]

/-- A column block of a chunk is 128 columns of it, in order. -/
theorem colBlock_apply (sb : FVec Ideal S1x512x1024 .f32) (y : Fin 512) (l : Fin 128) (i : ℕ) (hi : i < 8) :
    colBlock (F := Ideal) sb i (ix2 y l) = sb (ix3 0 y ⟨128 * i + l, by omega⟩) := by
  have cut (o : ℕ) (h : S512x1024.Slices ![0, o] S512x128) (ho : o + 128 ≤ 1024) :
      extractStridedSlice S512x128 ![0, o] (k0_pay17 (F := Ideal) sb) h (ix2 y l) = sb (ix3 0 y ⟨o + l, by omega⟩) := by
    pointwise [k0_pay17]
  interval_cases i
  · exact (cut 0 slices_S512x1024_o0_0_S512x128 (by omega)).trans (by congr)
  · exact cut 128 slices_S512x1024_o0_128_S512x128 (by omega)
  · exact cut 256 slices_S512x1024_o0_256_S512x128 (by omega)
  · exact cut 384 slices_S512x1024_o0_384_S512x128 (by omega)
  · exact cut 512 slices_S512x1024_o0_512_S512x128 (by omega)
  · exact cut 640 slices_S512x1024_o0_640_S512x128 (by omega)
  · exact cut 768 slices_S512x1024_o0_768_S512x128 (by omega)
  · exact cut 896 slices_S512x1024_o0_896_S512x128 (by omega)

/-- The quadruple four arrays hold at an entry. -/
def quadAt (g : Lanes Ideal × Lanes Ideal × Lanes Ideal × Lanes Ideal) (y : Fin 512) (l : Fin 128) : EReal × EReal × EReal × EReal :=
  (g.1 (ix2 y l), g.2.1 (ix2 y l), g.2.2.1 (ix2 y l), g.2.2.2 (ix2 y l))

theorem putTop_apply (x a : Lanes Ideal) (y : Fin 512) (l : Fin 128) :
    putTop (F := Ideal) x a (ix2 y l) = if a (ix2 y l) ≤ x (ix2 y l) then x (ix2 y l) else a (ix2 y l) := by
  pointwise [putTop]

theorem putNext_apply (x b c : Lanes Ideal) (y : Fin 512) (l : Fin 128) :
    putNext (F := Ideal) x b c (ix2 y l) = if c (ix2 y l) ≤ x (ix2 y l) then
      (if b (ix2 y l) ≤ x (ix2 y l) then b (ix2 y l) else x (ix2 y l)) else c (ix2 y l) := by
  pointwise [putNext]

theorem insertAll_apply (x : ℕ → Lanes Ideal) (g : Lanes Ideal × Lanes Ideal × Lanes Ideal × Lanes Ideal) (y : Fin 512) (l : Fin 128)
    (n : ℕ) : quadAt (insertAll (F := Ideal) x g n) y l = LaneTop.insertSeq (fun i => x i (ix2 y l)) (quadAt g y l) n := by
  induction n with
  | zero => rfl
  | succ n ih =>
    rw [LaneTop.insertSeq, ← ih]
    simp only [insertAll, insertStep, quadAt, LaneTop.insert, putTop_apply, putNext_apply]
    rfl

theorem rowMax_apply (a : Lanes Ideal) (y : Fin 512) :
    rowMax (F := Ideal) a (ix2 y 0) = Finset.univ.sup fun l : Fin 128 => a (ix2 y l) := by
  pointwise [rowMax]
  rw [negInf_eq]
  rfl

theorem select_isMax_apply (a u v : Lanes Ideal) (y : Fin 512) (l : Fin 128) :
    select (isMax (F := Ideal) a) u v (ix2 y l)
      = if (Finset.univ.sup fun l' : Fin 128 => a (ix2 y l')) ≤ a (ix2 y l) then u (ix2 y l) else v (ix2 y l) := by
  rw [← rowMax_apply]
  pointwise [isMax]

theorem removeAll_apply (g : Lanes Ideal × Lanes Ideal × Lanes Ideal × Lanes Ideal) (y : Fin 512) (n : ℕ) :
    (fun l => quadAt (removeAll (F := Ideal) g n) y l) = LaneTop.popSeq (fun l => quadAt g y l) n := by
  induction n with
  | zero => rfl
  | succ n ih =>
    rw [LaneTop.popSeq, ← ih]
    funext l
    have hb : (broadcast S512x128 (Scalar.ofBits (F := Ideal) .f32 0xFF800000#32) : Lanes Ideal) (ix2 y l) = (⊥ : EReal) := negInf_eq
    simp only [removeAll, removeStep, quadAt, LaneTop.pop, select_isMax_apply, hb]
    rfl

/-- The weight of a column: its exponential if its similarity reaches the threshold. -/
def weight (t s : EReal) : EReal := if t ≤ s then Ideal.exp s else 0

theorem pay9_apply (sb : FVec Ideal S1x512x1024 .f32) (thr : FVec Ideal S512x1 .f32) (y : Fin 512) (n : Fin 1024) :
    k0_pay9 (F := Ideal) sb thr (ix2 y n) = weight (thr (ix2 y 0)) (sb (ix3 0 y n)) := by
  pointwise [k0_pay9]
  unfold weight
  have h1 : FloatOps.sitofp (F := Ideal) FTy.f32 (BitVec.setWidth 32 (BitVec.ofBool true)) = (1 : EReal) := by
    show (((BitVec.setWidth 32 (BitVec.ofBool true)).toInt : ℝ) : EReal) = 1
    rw [show (BitVec.setWidth 32 (BitVec.ofBool true)).toInt = 1 from by decide]
    norm_num
  have h0 : FloatOps.sitofp (F := Ideal) FTy.f32 (BitVec.setWidth 32 (BitVec.ofBool false)) = (0 : EReal) := by
    show (((BitVec.setWidth 32 (BitVec.ofBool false)).toInt : ℝ) : EReal) = 0
    rw [show (BitVec.setWidth 32 (BitVec.ofBool false)).toInt = 0 from by decide]
    norm_num
  by_cases h : thr (ix2 y 0) ≤ sb (ix3 0 y n)
  · rw [if_pos h, decide_eq_true h, h1, mul_one]
  · rw [if_neg h, decide_eq_false h, h0, mul_zero]

theorem pay10_apply (sb : FVec Ideal S1x512x1024 .f32) (thr : FVec Ideal S512x1 .f32) (y : Fin 512) :
    k0_pay10 (F := Ideal) sb thr (ix2 y 0) = ∑ n : Fin 1024, weight (thr (ix2 y 0)) (sb (ix3 0 y n)) := by
  pointwise [k0_pay10]
  exact Finset.sum_congr rfl fun n _ => pay9_apply sb thr y n

theorem pay11_apply (sb : FVec Ideal S1x512x1024 .f32) (thr : FVec Ideal S512x1 .f32) (P : FVec Ideal S1x1024x512 .bf16)
    (y d : Fin 512) : k0_pay11 (F := Ideal) sb thr P (ix2 y d)
      = ∑ n : Fin 1024, weight (thr (ix2 y 0)) (sb (ix3 0 y n)) * P (ix3 0 n d) := by
  pointwise [k0_pay11]
  exact Finset.sum_congr rfl fun n _ => by rw [pay9_apply]

theorem pay12_apply (sb : FVec Ideal S1x512x1024 .f32) (thr : FVec Ideal S512x1 .f32) (P : FVec Ideal S1x1024x512 .bf16)
    (y d : Fin 512) : k0_pay12 (F := Ideal) sb thr P (ix2 y d) = k0_pay11 (F := Ideal) sb thr P (ix2 y d) := by
  pointwise [k0_pay12]

theorem pay13_apply (sb : FVec Ideal S1x512x1024 .f32) (thr : FVec Ideal S512x1 .f32) (y : Fin 512) :
    k0_pay13 (F := Ideal) sb thr (ix2 y 0) = k0_pay10 (F := Ideal) sb thr (ix2 y 0) := by
  pointwise [k0_pay13]

theorem pay14_apply (sb : FVec Ideal S1x512x1024 .f32) (thr : FVec Ideal S512x1 .f32) (P : FVec Ideal S1x1024x512 .bf16)
    (acc : FVec Ideal S512x512 .f32) (y d : Fin 512) :
    k0_pay14 (F := Ideal) sb thr P acc (ix2 y d) = acc (ix2 y d) + k0_pay11 (F := Ideal) sb thr P (ix2 y d) := by
  pointwise [k0_pay14]

theorem pay15_apply (sb : FVec Ideal S1x512x1024 .f32) (thr z : FVec Ideal S512x1 .f32) (y : Fin 512) :
    k0_pay15 (F := Ideal) sb thr z (ix2 y 0) = z (ix2 y 0) + k0_pay10 (F := Ideal) sb thr (ix2 y 0) := by
  pointwise [k0_pay15]

theorem pay8_apply (t : FVec Ideal S512x1 .f32) (y : Fin 512) : k0_pay8 (F := Ideal) t (ix2 y 0) = t (ix2 y 0) := by
  pointwise [k0_pay8]

/-- The gated read-out of a cue and a recalled vector, as the kernel computes it. -/
def gated (cue r : Fin 512 → EReal) (wgc wgr wro : Fin 512 → Fin 512 → EReal) (bias : Fin 512 → EReal) (o : Fin 512) : EReal :=
  ∑ x : Fin 512, Ideal.tanh (Ideal.logistic (∑ e : Fin 512, cue e * wgc e x + ∑ e : Fin 512, r e * wgr e x + bias x) * r x) * wro x o

theorem pay16_apply (cue acc wgc wgr wro : FVec Ideal S512x512 .f32) (z : FVec Ideal S512x1 .f32) (bias : FVec Ideal S1x512 .f32)
    (y o : Fin 512) : k0_pay16 (F := Ideal) cue acc z wgc wgr bias wro (ix2 y o)
      = gated (fun e => cue (ix2 y e)) (fun e => Ideal.div (acc (ix2 y e)) (z (ix2 y 0))) (fun e x => wgc (ix2 e x))
          (fun e x => wgr (ix2 e x)) (fun x o => wro (ix2 x o)) (fun x => bias (ix2 0 x)) o := by
  pointwise [k0_pay16]
  rfl

end Cert.KernelIdeal.Recall
-- ==== Proof.KernelValue.lean ====
/- What a row block's output holds, entry by entry: the threshold of a row read off the lanes' quadruples, the two sums
   over the 8192 columns, and the gated read-out. -/
module

public import proofs.«01_k».proof.Proof.KernelRead

@[expose] public section

set_option Elab.async false

noncomputable section

namespace Cert.KernelIdeal.Recall

open Idealize.ShloMosaic Idealize.ShloMosaic.TcCoe Idealize.SL.Sem
open Cert.KernelIdeal.Gen

/-- The quadruple a table holds for a row and a lane. -/
def tableQuad (g : FVec Ideal S4x512x128 .f32) (y : Fin 512) (l : Fin 128) : EReal × EReal × EReal × EReal :=
  quadAt (rowsOf (tableRow0 g) (tableRow1 g) (tableRow2 g) (tableRow3 g)) y l

theorem pay18_cast (z : Lanes Ideal) (y : Fin 512) (l : Fin 128) :
    k0_pay18 (F := Ideal) (shapeCast S1x512x128 z shapeCasts_S512x128_S1x512x128) (ix2 y l) = z (ix2 y l) := by
  pointwise [k0_pay18]

/-- A table written from the four arrays of insertions holds the insertions' quadruples. -/
theorem tableQuad_rows (g : FVec Ideal S4x512x128 .f32) (q : Lanes Ideal × Lanes Ideal × Lanes Ideal × Lanes Ideal) (y : Fin 512) (l : Fin 128) :
    tableQuad (tableOf (F := Ideal) g (shapeCast S1x512x128 q.1 shapeCasts_S512x128_S1x512x128)
      (shapeCast S1x512x128 q.2.1 shapeCasts_S512x128_S1x512x128) (shapeCast S1x512x128 q.2.2.1 shapeCasts_S512x128_S1x512x128)
      (shapeCast S1x512x128 q.2.2.2 shapeCasts_S512x128_S1x512x128)) y l = quadAt q y l := by
  simp only [tableQuad, rowsOf, quadAt, tableRow0_tableOf, tableRow1_tableOf, tableRow2_tableOf, tableRow3_tableOf]
  exact Prod.ext (pay18_cast _ y l) (Prod.ext (pay18_cast _ y l) (Prod.ext (pay18_cast _ y l) (pay18_cast _ y l)))

theorem tableQuad_fold (sb : FVec Ideal S1x512x1024 .f32) (g : FVec Ideal S4x512x128 .f32) (y : Fin 512) (l : Fin 128) :
    tableQuad (foldTable (F := Ideal) sb g) y l = LaneTop.insertSeq (fun i => colBlock (F := Ideal) sb i (ix2 y l)) (tableQuad g y l) 8 := by
  obtain ⟨e0, e1, e2, e3⟩ := foldRows_eq (F := Ideal) sb (tableRow0 g) (tableRow1 g) (tableRow2 g) (tableRow3 g)
  rw [foldTable, e0, e1, e2, e3, tableQuad_rows, insertAll_apply]
  rfl

theorem tableQuad_last (sb : FVec Ideal S1x512x1024 .f32) (g : FVec Ideal S4x512x128 .f32) (y : Fin 512) (l : Fin 128) :
    tableQuad (lastTable (F := Ideal) sb g) y l = LaneTop.insertSeq (fun i => colBlock (F := Ideal) sb i (ix2 y l)) (tableQuad g y l) 8 := by
  obtain ⟨e0, e1, e2, e3⟩ := lastRows_eq (F := Ideal) sb (tableRow0 g) (tableRow1 g) (tableRow2 g) (tableRow3 g)
  rw [lastTable, e0, e1, e2, e3, tableQuad_rows, insertAll_apply]
  rfl

theorem pay3_eq (i : S4x512x128.Idx) : k0_pay3 (F := Ideal) i = (⊥ : EReal) := by
  rw [← pay3_apply (i 0) (i 1) (i 2)]
  congr 1
  funext a
  fin_cases a <;> rfl

theorem tableQuad_start (y : Fin 512) (l : Fin 128) : tableQuad (k0_pay3 (F := Ideal)) y l = (⊥, ⊥, ⊥, ⊥) := by
  simp only [tableQuad, quadAt, rowsOf, pay18_apply, tableRow0, tableRow1, tableRow2, tableRow3, VecWindow.window, pay3_eq]

/-- The threshold read off a table. -/
theorem threshold_apply (g : FVec Ideal S4x512x128 .f32) (y : Fin 512) :
    threshold (F := Ideal) g (ix2 y 0) = Finset.univ.sup fun l => (LaneTop.popSeq (fun l => tableQuad g y l) 7 l).1 := by
  rw [threshold_eq, pay8_apply, rowMax_apply]
  simp only [tableQuad]
  rw [← removeAll_apply]
  simp only [quadAt]

/-- A chunk's part of a sum over the columns. -/
theorem sum_chunk {M : Type} [AddCommMonoid M] (f : ℕ → M) (k : ℕ) :
    ∑ n ∈ Finset.range (1024 * (k + 1)), f n = ∑ n ∈ Finset.range (1024 * k), f n + ∑ n : Fin 1024, f (1024 * k + n) := by
  rw [Nat.mul_succ, Finset.sum_range_add, Finset.sum_range (fun n => f (1024 * k + n))]

section Row
variable (cue : FVec Ideal S512x512 .f32) (pat : ℕ → FVec Ideal S1024x512 .f32) (P : ℕ → Fin 512 → EReal)
variable (hP : ∀ k, k < 8 → ∀ (n : Fin 1024) (d : Fin 512), pat k (ix2 n d) = P (1024 * k + n) d) (y : Fin 512)
include hP

theorem simOf_apply (k : ℕ) (hk : k < 8) (n : Fin 1024) :
    simOf (F := Ideal) cue pat k (ix3 0 y n) = score (fun e => cue (ix2 y e)) P (1024 * k + n) := by
  rw [simOf, pay1_apply]
  exact Finset.sum_congr rfl fun d _ => by rw [hP k hk]

theorem colBlock_sim (k : ℕ) (hk : k < 8) (l : Fin 128) (i : ℕ) (hi : i < 8) :
    colBlock (F := Ideal) (simOf cue pat k) i (ix2 y l) = score (fun e => cue (ix2 y e)) P (128 * (8 * k + i) + l) := by
  rw [colBlock_apply _ _ _ _ hi, simOf_apply cue pat P hP y k hk]
  congr 1
  show 1024 * k + (128 * i + l.val) = _
  omega

theorem tableQuad_at (l : Fin 128) (k : ℕ) (hk : k ≤ 8) :
    tableQuad (tableAt (F := Ideal) cue pat k) y l
      = LaneTop.insertSeq (fun m => score (fun e => cue (ix2 y e)) P (128 * m + l)) (⊥, ⊥, ⊥, ⊥) (8 * k) := by
  induction k with
  | zero => exact tableQuad_start y l
  | succ k ih =>
    rw [tableAt, tableQuad_fold, ih (by omega), Nat.mul_succ, LaneTop.insertSeq_add]
    exact LaneTop.insertSeq_congr _ _ fun i hi => colBlock_sim cue pat P hP y k (by omega) l i hi

theorem thrOf_apply : thrOf (F := Ideal) cue pat (ix2 y 0)
    = Finset.univ.sup fun l => (LaneTop.popSeq (LaneTop.lanes (score (fun e => cue (ix2 y e)) P)) 7 l).1 := by
  have h : (fun l => tableQuad (tableEnd (F := Ideal) cue pat) y l) = LaneTop.lanes (score (fun e => cue (ix2 y e)) P) := by
    funext l
    rw [tableEnd, tableQuad_last, tableQuad_at cue pat P hP y l 7 (by omega), LaneTop.lanes, show 64 = 8 * 7 + 8 from rfl, LaneTop.insertSeq_add]
    exact LaneTop.insertSeq_congr _ _ fun i hi => colBlock_sim cue pat P hP y 7 (by omega) l i hi
  rw [thrOf, threshold_apply, h]

theorem accAt_apply (d : Fin 512) (k : ℕ) (hk : k < 8) : accAt (F := Ideal) cue pat k (ix2 y d)
    = ∑ n ∈ Finset.range (1024 * (k + 1)),
        weight (thrOf (F := Ideal) cue pat (ix2 y 0)) (score (fun e => cue (ix2 y e)) P n) * P n d := by
  have chunk (k : ℕ) (hk : k < 8) : k0_pay11 (F := Ideal) (simOf cue pat k) (thrOf cue pat) (patOf pat k) (ix2 y d)
      = ∑ n : Fin 1024, weight (thrOf (F := Ideal) cue pat (ix2 y 0)) (score (fun e => cue (ix2 y e)) P (1024 * k + n)) * P (1024 * k + n) d := by
    rw [pay11_apply]
    exact Finset.sum_congr rfl fun n _ => by rw [simOf_apply cue pat P hP y k hk, patOf, pay2_apply, hP k hk]
  induction k with
  | zero =>
    rw [accAt, pay12_apply, chunk 0 hk, sum_chunk]
    simp
  | succ k ih => rw [accAt, pay14_apply, ih (by omega), chunk (k + 1) hk, sum_chunk _ (k + 1)]

theorem weightAt_apply (k : ℕ) (hk : k < 8) : weightAt (F := Ideal) cue pat k (ix2 y 0)
    = ∑ n ∈ Finset.range (1024 * (k + 1)),
        weight (thrOf (F := Ideal) cue pat (ix2 y 0)) (score (fun e => cue (ix2 y e)) P n) := by
  have chunk (k : ℕ) (hk : k < 8) : k0_pay10 (F := Ideal) (simOf cue pat k) (thrOf cue pat) (ix2 y 0)
      = ∑ n : Fin 1024, weight (thrOf (F := Ideal) cue pat (ix2 y 0)) (score (fun e => cue (ix2 y e)) P (1024 * k + n)) := by
    rw [pay10_apply]
    exact Finset.sum_congr rfl fun n _ => by rw [simOf_apply cue pat P hP y k hk]
  induction k with
  | zero =>
    rw [weightAt, pay13_apply, chunk 0 hk, sum_chunk]
    simp
  | succ k ih => rw [weightAt, pay15_apply, ih (by omega), chunk (k + 1) hk, sum_chunk _ (k + 1)]

variable {idx : ℕ → ℕ} (ht : LaneTop.TopEight (score (fun e => cue (ix2 y e)) P) idx)
include ht

/-- The output of a row: the gated read-out of the cue and of the exponentially weighted mean of the eight patterns. -/
theorem outOf_apply (wgc wgr wro : FVec Ideal S512x512 .f32) (bias : FVec Ideal S1x512 .f32) (o : Fin 512) :
    outOf (F := Ideal) cue pat wgc wgr wro bias (ix2 y o)
      = gated (fun e => cue (ix2 y e))
          (fun d => Ideal.div (∑ k ∈ Finset.range 8, Ideal.exp (score (fun e => cue (ix2 y e)) P (idx k)) * P (idx k) d)
            (∑ k ∈ Finset.range 8, Ideal.exp (score (fun e => cue (ix2 y e)) P (idx k))))
          (fun e x => wgc (ix2 e x)) (fun e x => wgr (ix2 e x)) (fun x o => wro (ix2 x o)) (fun x => bias (ix2 0 x)) o := by
  have hthr : thrOf (F := Ideal) cue pat (ix2 y 0) = score (fun e => cue (ix2 y e)) P (idx 7) := by
    rw [thrOf_apply cue pat P hP y]
    exact ht.threshold
  have hr (d : Fin 512) : Ideal.div (accAt (F := Ideal) cue pat 7 (ix2 y d)) (weightAt (F := Ideal) cue pat 7 (ix2 y 0))
      = Ideal.div (∑ k ∈ Finset.range 8, Ideal.exp (score (fun e => cue (ix2 y e)) P (idx k)) * P (idx k) d)
            (∑ k ∈ Finset.range 8, Ideal.exp (score (fun e => cue (ix2 y e)) P (idx k))) := by
    have e1 := ht.sum_ge fun n => Ideal.exp (score (fun e => cue (ix2 y e)) P n) * P n d
    have e2 := ht.sum_ge fun n => Ideal.exp (score (fun e => cue (ix2 y e)) P n)
    have a1 := accAt_apply cue pat P hP y d 7 (by omega)
    have a2 := weightAt_apply cue pat P hP y 7 (by omega)
    rw [hthr, show 1024 * (7 + 1) = 8192 from rfl] at a1 a2
    simp only [weight, ite_mul, zero_mul] at a1 a2
    rw [a1, a2, e1, e2]
  rw [outOf, pay16_apply]
  simp only [hr]

end Row

end Cert.KernelIdeal.Recall
-- ==== Proof.Result.lean ====
/- What the kernel's run leaves in its result: every row block is the output block of that block's cue rows. -/
module

public import proofs.«01_k».proof.Proof.Body
public import Idealize.ShloMosaic.Lib.Pipeline.Value

@[expose] public section

set_option Elab.async false

noncomputable section

namespace Cert.KernelIdeal.Recall

open Idealize.ShloMosaic Idealize.ShloMosaic.TcCoe Idealize.SL.Sem
open Cert.KernelIdeal.Gen

variable {F : FTy → Type} [FloatOps F]
variable (m : (ℓ : Loc nD τ sig) → Buf (Elt F) ℓ) (ρ : Dev nD → PrngReg)

set_option backward.proofsInPublic true in
/-- A place of the result within its row block. -/
abbrev inBlock (i : S4096x512.Idx) : S512x512.Idx := fun a => match a with
  | ⟨0, _⟩ => ⟨(i 0).val % 512, Nat.mod_lt _ (by decide)⟩
  | ⟨1, _⟩ => ⟨(i 1).val % 512, Nat.mod_lt _ (by decide)⟩

/-- The result: at each place, the output block of its row block. -/
def resultOf (c : Dev nD) : Buf (Elt F) ((c : Thread nD τ).loc main_v6) := fun i => outBlock m c ((i 0).val / 512) (inBlock i)

/-- The result's block at step `t` is row block `t / 16`. -/
theorem outIndex : ∀ t : Fin cfg0.N, win0_6.index t (0 : Fin 2) = t.val / 16 ∧ win0_6.index t (1 : Fin 2) = 0 :=
  (by decide +kernel : ∀ t : Fin grid0.N, _)

/-- The last step of a row block. -/
abbrev lastStep (q : Fin 8) : Fin grid0.N := ⟨16 * q.val + 15, lt_of_lt_of_eq (by omega) N_0.symm⟩

theorem flush_last : ∀ q : Fin 8, win0_6.flush (lastStep q) = true := by decide +kernel

/-- What a step writes back is its block of the result. -/
theorem flushed_eq (c : Dev nD) (t : Fin cfg0.N) (_hf : (cfg0.win 6).flush t = true) :
    (dats m 0 c).flushed 6 t = ((cfg0.win 6).blk t).view.read (Elt F) (resultOf m c) := by
  show (cfg0.win 6).cut (grid0.coords t) ((dats m 0 c).after 6 t) = _
  rw [after_6]
  obtain ⟨e0, e1⟩ := outIndex t
  funext y
  have hy0 : (y 0).val < 512 := (y 0).isLt
  have hy1 : (y 1).val < 512 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 512 + 1 * (y 1).val := rfl
  have hl : inBlock (((cfg0.win 6).blk t).view.emb y) = (cfg0.win 6).xinj (grid0.coords t) y := by
    funext a
    apply Fin.ext
    match a with
    | ⟨0, _⟩ => show (((cfg0.win 6).blk t).view.emb y 0).val % 512 = (y 0).val; rw [hb0]; omega
    | ⟨1, _⟩ => show (((cfg0.win 6).blk t).view.emb y 1).val % 512 = (y 1).val; rw [hb1]; omega
  have hd : (((cfg0.win 6).blk t).view.emb y 0).val / 512 = t.val / 16 := by rw [hb0]; omega
  show outBlock m c (t.val / 16) ((cfg0.win 6).xinj (grid0.coords t) y)
    = outBlock m c ((((cfg0.win 6).blk t).view.emb y 0).val / 512) (inBlock (((cfg0.win 6).blk t).view.emb y))
  rw [hl, hd]

/-- A place is in a step's block when both its coordinates are in the block's ranges. -/
theorem mem_block (t : Fin cfg0.N) (i : S4096x512.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v6).slice (win0_6.rect t)).set ↔ _
  rw [View.set_slice_whole, Rect.mem_set_unit]
  exact Iff.rfl

/-- Every place of the result is written back at the last step of its row block. -/
theorem covered (i : S4096x512.Idx) : ∃ t : Fin cfg0.N, (cfg0.win 6).flush t = true ∧ i ∈ ((cfg0.win 6).blk t).view.set := by
  have hi0 : (i 0).val < 4096 := (i 0).isLt
  have hi1 : (i 1).val < 512 := (i 1).isLt
  have hq : (i 0).val / 512 < 8 := by omega
  obtain ⟨e0, e1⟩ := outIndex (lastStep ⟨(i 0).val / 512, hq⟩)
  have e0 : win0_6.index (lastStep ⟨(i 0).val / 512, hq⟩) (0 : Fin 2) = (16 * ((i 0).val / 512) + 15) / 16 := e0
  refine ⟨lastStep ⟨(i 0).val / 512, hq⟩, flush_last _, (mem_block _ i).mpr fun a => ?_⟩
  match a with
  | ⟨0, _⟩ =>
    show win0_6.index (lastStep ⟨(i 0).val / 512, hq⟩) (0 : Fin 2) * 512 ≤ (i 0).val
      ∧ (i 0).val < win0_6.index (lastStep ⟨(i 0).val / 512, hq⟩) (0 : Fin 2) * 512 + 512
    omega
  | ⟨1, _⟩ =>
    show win0_6.index (lastStep ⟨(i 0).val / 512, hq⟩) (1 : Fin 2) * 512 ≤ (i 1).val
      ∧ (i 1).val < win0_6.index (lastStep ⟨(i 0).val / 512, hq⟩) (1 : Fin 2) * 512 + 512
    omega

theorem result_eq (c : Dev nD) : (dats m 0 c).arrAt 6 cfg0.N = resultOf m c :=
  (dats m 0 c).arrAt_eq_of_cover 6 _ (fun t hf => flushed_eq m c t hf) covered

/-- The kernel's run: the result, and the arguments unchanged. -/
theorem run_result : θ_run defs (onTc (τ := τ) (main (F := F))) ⟨m, fun _ => 0, ρ⟩ (fun r => ∀ c : Dev nD,
      r.2.mem ((c.tc : Thread nD τ).loc main_v6) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 6).trans (result_eq m c), h.2.1 c⟩)
    (θ_run_and (run_post m ρ) (frame m ρ))

end Cert.KernelIdeal.Recall
-- ==== Proof.Ranking.lean ====
/- The order in which a top-k lists the positions of a row, greatest score first. -/
module

public import proofs.«01_k».proof.Proof.TopEight
public import Idealize.ShloMosaic.Lib.Pointwise
public import Idealize.ShloMosaic.Lib.SortFacts

@[expose] public section

set_option Elab.async false

noncomputable section

namespace Ranking

open Idealize.ShloMosaic

/-- The position listed at each rank of a row of scores. -/
def order {n : ℕ} (s : Fin n → EReal) : Fin n → Fin n :=
  sortedFrom fun a b => Ideal.cmpTotal .gt (s a) (s b) == 1#1

theorem before_iff {n : ℕ} (s : Fin n → EReal) (a b : Fin n) : (Ideal.cmpTotal .gt (s a) (s b) == 1#1) = decide (s b < s a) := by
  show (BitVec.ofBool (decide (s b < s a)) == 1#1) = _
  by_cases h : s b < s a <;> simp [h]

/-- A later rank has no greater score. -/
theorem order_anti {n : ℕ} (s : Fin n → EReal) {i j : Fin n} (h : i ≤ j) : s (order s j) ≤ s (order s i) := by
  rcases h.eq_or_lt with rfl | h
  · exact le_refl _
  have := sortedFrom_noInversion (fun a b => Ideal.cmpTotal .gt (s a) (s b) == 1#1) (fun a b => Ideal.cmpTotal .gt (s a) (s b) == 1#1)
    (fun a b e => by rw [before_iff] at e ⊢; simpa using (of_decide_eq_true e).le) (fun a b e => e)
    (fun a b c e f => by rw [before_iff] at e f ⊢; simp only [decide_eq_false_iff_not, not_lt] at e f ⊢; exact e.trans f) i j h
  rw [before_iff] at this
  exact not_lt.1 (of_decide_eq_false this)

theorem order_surjective {n : ℕ} (s : Fin n → EReal) : Function.Surjective (order s) := sortedFrom_surjective _

/-- Rank `k`'s position in a row of 8192 scores. -/
def rankPos (s : Fin 8192 → EReal) (k : ℕ) : ℕ := if h : k < 8192 then (order s ⟨k, h⟩).val else 0

theorem rankPos_lt (s : Fin 8192 → EReal) (k : ℕ) : rankPos s k < 8192 := by
  unfold rankPos; split <;> omega

theorem along_one {M N : ℕ} (j : (⟨2, ![M, N]⟩ : Shape).Idx) (h : 1 < 2) (k : Fin N) :
    Shape.Idx.along (s := ⟨2, ![M, N]⟩) j (⟨1, h⟩ : Fin 2) k = ix2 (j 0) k := by
  funext a
  match a with
  | ⟨0, _⟩ => rfl
  | ⟨1, _⟩ => rfl

variable {K : ℕ} (x : FVec Ideal ⟨2, ![4096, 8192]⟩ .f32)
  (h : (⟨2, ![4096, 8192]⟩ : Shape).Slices (fun _ => 0) ⟨2, ![4096, K]⟩) (r : Fin 4096) (k : Fin K) (hk : k.val < 8192)

include hk in
omit x in
/-- Cutting a row to its first entries keeps each of them. -/
theorem cut_apply {α : Type} (z : (⟨2, ![4096, 8192]⟩ : Shape).Idx → α) :
    extractStridedSlice ⟨2, ![4096, K]⟩ (fun _ => 0) z h (ix2 r k) = z (ix2 r ⟨k.val, hk⟩) := by
  refine extractStridedSlice_apply _ _ _ _ _ fun a => ?_
  match a with
  | ⟨0, _⟩ => exact (Nat.zero_add _).symm
  | ⟨1, _⟩ => exact (Nat.zero_add _).symm

omit h in
/-- The sort of a row, told through the array, is the sort of the row. -/
theorem sorted_row : sortedFrom (fun a b : Fin 8192 => FloatOps.cmpfTotal (F := Ideal) (φ := .f32) .gt
      (x (Shape.Idx.along (s := ⟨2, ![4096, 8192]⟩) (ix2 r ⟨k.val, hk⟩) (⟨1, Nat.lt_succ_self 1⟩ : Fin 2) a))
      (x (Shape.Idx.along (s := ⟨2, ![4096, 8192]⟩) (ix2 r ⟨k.val, hk⟩) (⟨1, Nat.lt_succ_self 1⟩ : Fin 2) b)) == 1#1) ⟨k.val, hk⟩
    = order (fun n => x (ix2 r n)) ⟨k.val, hk⟩ := by
  unfold order
  congr 1
  funext a b
  rw [along_one (M := 4096) (N := 8192), along_one (M := 4096) (N := 8192)]
  rfl

/-- The value listed at rank `k` of row `r`. -/
theorem topK_value : (Host.topK ⟨2, ![4096, K]⟩ 1 (FloatOps.cmpfTotal (F := Ideal) (φ := .f32) .gt) x h).1 (ix2 r k)
    = x (ix2 r (order (fun n => x (ix2 r n)) ⟨k.val, hk⟩)) := by
  unfold Host.topK
  dsimp only
  rw [cut_apply h r k hk]
  unfold Host.sort2
  rw [dif_pos (show 1 < (⟨2, ![4096, 8192]⟩ : Shape).rank from Nat.lt_succ_self 1)]
  dsimp only
  exact (congrArg x (along_one (M := 4096) (N := 8192) _ _ _)).trans (congrArg (fun q => x (ix2 r q)) (sorted_row x r k hk))

include hk in
/-- The position listed at rank `k` of row `r`. -/
theorem topK_index : (Host.topK ⟨2, ![4096, K]⟩ 1 (FloatOps.cmpfTotal (F := Ideal) (φ := .f32) .gt) x h).2 (ix2 r k)
    = BitVec.ofNat 32 (rankPos (fun n => x (ix2 r n)) k.val) := by
  unfold Host.topK
  dsimp only
  rw [cut_apply h r k hk]
  unfold Host.sort2 rankPos
  rw [dif_pos (show 1 < (⟨2, ![4096, 8192]⟩ : Shape).rank from Nat.lt_succ_self 1), dif_pos hk]
  dsimp only
  rw [dif_pos (Nat.lt_succ_self 1)]
  exact (congrArg (iotaInDim ⟨2, ![4096, 8192]⟩ 32 1) (along_one (M := 4096) (N := 8192) _ _ _)).trans
    (congrArg (fun q : Fin 8192 => BitVec.ofNat 32 q.val) (sorted_row x r k hk))

/-- If each of the nine first ranks scores strictly above the next, and no four-lane is overfull, the ranking is a strict
    top eight. -/
theorem topEight (s : Fin 8192 → EReal) (t : ℕ → EReal) (hs : ∀ n : Fin 8192, t n.val = s n)
    (hd : ∀ k < 8, t (rankPos s (k + 1)) < t (rankPos s k))
    (hl : ∀ k < 8, ((Finset.range 8).filter fun j => rankPos s j % 128 = rankPos s k % 128).card ≤ 4) :
    LaneTop.TopEight t (rankPos s) := by
  have ht : ∀ k (h : k < 8192), t (rankPos s k) = s (order s ⟨k, h⟩) := fun k h => by
    rw [← hs, rankPos, dif_pos h]
  refine ⟨fun k _ => rankPos_lt s k, fun j k hjk hk => ?_, fun n hn => ?_, hl⟩
  · refine lt_of_le_of_lt ?_ (hd j (by omega))
    rw [ht k (by omega), ht (j + 1) (by omega)]
    exact order_anti s (Fin.mk_le_mk.2 hjk)
  · obtain ⟨j, hj⟩ := order_surjective s ⟨n, hn⟩
    by_cases h8 : j.val < 8
    · exact Or.inl ⟨j.val, h8, by rw [rankPos, dif_pos j.isLt, hj]⟩
    · refine Or.inr ?_
      rw [hs ⟨n, hn⟩, ← hj, ht 8 (by omega)]
      exact order_anti s (Fin.mk_le_mk.2 (by omega))

end Ranking

end
-- ==== Proof.MeanOfEight.lean ====
/- A softmax mean over the extended reals, written with and without the greatest score taken off first. -/
module

public import Idealize.ShloMosaic.Lib.Pointwise
public import Idealize.ShloMosaic.PureOps.Ideal.Laws

@[expose] public section

set_option Elab.async false

noncomputable section

namespace Softmax

open Idealize.ShloMosaic

/-- A quotient of reals by a real that is not zero. -/
theorem div_coe (a b : ℝ) (hb : b ≠ 0) : Ideal.div (a : EReal) (b : EReal) = ((a / b : ℝ) : EReal) := by
  rw [Ideal.div, if_neg (by exact_mod_cast hb), div_eq_mul_inv, EReal.coe_mul, EReal.coe_inv]

theorem exp_coe (a : ℝ) : Ideal.exp (a : EReal) = ((Real.exp a : ℝ) : EReal) := rfl

theorem sum_coe {ι : Type} (S : Finset ι) (f : ι → ℝ) : (∑ k ∈ S, (f k : EReal)) = ((∑ k ∈ S, f k : ℝ) : EReal) := by
  classical
  induction S using Finset.induction_on with
  | empty => simp
  | insert a S ha ih => rw [Finset.sum_insert ha, Finset.sum_insert ha, ih, EReal.coe_add]

/-- A sum of reals is real. -/
theorem sum_real {ι : Type} (S : Finset ι) (f : ι → EReal) (hf : ∀ k, ∃ a : ℝ, f k = a) : ∃ a : ℝ, ∑ k ∈ S, f k = a := by
  choose g hg using hf
  exact ⟨∑ k ∈ S, g k, by rw [← sum_coe]; exact Finset.sum_congr rfl fun k _ => hg k⟩

/-- The mean of `p` with weights `exp (v − a)` over their sum does not depend on the real `a`. -/
theorem mean_eq (v p : Fin 8 → EReal) (a : EReal) (hv : ∀ k, ∃ x : ℝ, v k = x) (hp : ∀ k, ∃ x : ℝ, p k = x) (ha : ∃ x : ℝ, a = x) :
    ∑ k, Ideal.div (Ideal.exp (v k - a)) (∑ j, Ideal.exp (v j - a)) * p k
      = Ideal.div (∑ k, Ideal.exp (v k) * p k) (∑ k, Ideal.exp (v k)) := by
  choose w hw using hv
  choose q hq using hp
  obtain ⟨b, rfl⟩ := ha
  have hpos : (0 : ℝ) < ∑ k, Real.exp (w k) := Finset.sum_pos (fun k _ => Real.exp_pos _) ⟨0, Finset.mem_univ _⟩
  have hpos' : (0 : ℝ) < ∑ k, Real.exp (w k - b) := Finset.sum_pos (fun k _ => Real.exp_pos _) ⟨0, Finset.mem_univ _⟩
  simp only [hw, hq, ← EReal.coe_sub, exp_coe, sum_coe, div_coe _ _ hpos'.ne', ← EReal.coe_mul, div_coe _ _ hpos.ne']
  congr 1
  have hs : ∑ k, Real.exp (w k - b) = (∑ k, Real.exp (w k)) * Real.exp (-b) := by
    rw [Finset.sum_mul]; exact Finset.sum_congr rfl fun k _ => by rw [← Real.exp_add, sub_eq_add_neg]
  rw [hs, Finset.sum_div]
  refine Finset.sum_congr rfl fun k _ => ?_
  rw [sub_eq_add_neg, Real.exp_add, mul_div_mul_right _ _ (Real.exp_ne_zero _)]
  ring

/-- The greatest of eight reals, taken from minus infinity, is real. -/
theorem max_real (v : Fin 8 → EReal) (hv : ∀ k, ∃ x : ℝ, v k = x) : ∃ x : ℝ, Finset.univ.sup v = x := by
  obtain ⟨k, _, hk⟩ := Finset.exists_mem_eq_sup Finset.univ ⟨0, Finset.mem_univ _⟩ v
  rw [hk]
  exact hv k

/-- A number divided by a norm at least as great, kept away from zero, is real. -/
theorem unit_real (q : Fin 512 → EReal) (ε : ℝ) (hε : 0 < ε) (d : Fin 512) :
    ∃ x : ℝ, Ideal.div (q d) (max (Ideal.sqrt (∑ e, q e * q e)) (ε : EReal)) = x := by
  have nn : ∀ e, 0 ≤ q e * q e := fun e => by
    induction q e using EReal.rec with
    | bot => simp
    | coe x => rw [← EReal.coe_mul]; exact_mod_cast mul_self_nonneg x
    | top => simp
  have le : q d * q d ≤ ∑ e, q e * q e := Finset.single_le_sum (fun e _ => nn e) (Finset.mem_univ d)
  have hpos : (0 : EReal) ≤ ∑ e, q e * q e := Finset.sum_nonneg fun e _ => nn e
  have hcorner : Ideal.div (q d) ⊤ = 0 := by rw [Ideal.div, if_neg (by simp), EReal.inv_top, mul_zero]
  generalize (∑ e, q e * q e) = S at le hpos
  induction S using EReal.rec with
  | bot => simp at hpos
  | top =>
    refine ⟨0, ?_⟩
    have : max (Ideal.sqrt ⊤) (ε : EReal) = ⊤ := top_le_iff.1 (le_max_left (⊤ : EReal) _)
    rw [this, hcorner]; rfl
  | coe s =>
    have hs : (0 : ℝ) ≤ s := by exact_mod_cast hpos
    have hm : max (Ideal.sqrt (s : EReal)) (ε : EReal) = ((max (Real.sqrt s) ε : ℝ) : EReal) := by
      have : Ideal.sqrt (s : EReal) = ((Real.sqrt s : ℝ) : EReal) := by
        show (if s < 0 then (⊥ : EReal) else _) = _
        rw [if_neg hs.not_gt]
      rw [this]
      exact (EReal.coe_strictMono.monotone.map_max).symm
    generalize q d = z at le
    induction z using EReal.rec with
    | bot => simp at le
    | top => simp at le
    | coe x => exact ⟨x / max (Real.sqrt s) ε, by rw [hm, div_coe _ _ (lt_max_of_lt_right hε).ne']⟩

end Softmax

end
-- ==== Proof.Conditions.lean ====
/- What the precondition says of the arguments, row by row. -/
module

public import proofs.«01_k».proof.Proof.Ranking
public import proofs.«01_k».proof.Proof.KernelRead
public import proofs.«01_k».proof.Proof.MeanOfEight
public import proofs.«01_k».proof.Proof.Gen.Pre_recallable
public import Idealize.ShloMosaic.Lib.ReduceAll

@[expose] public section

set_option Elab.async false

noncomputable section

namespace Cert.Pre_recallable.Conditions

open Idealize.ShloMosaic Cert.Pre_recallable Cert.Pre_recallable.Gen

instance : Subsingleton S_.Idx := ⟨fun _ _ => funext fun a => a.elim0⟩

/-- The position listed at rank `k` of row `r`. -/
def position (s : FVec Ideal S4096x8192 .f32) (r : Fin 4096) (k : Fin 8) : BitVec 32 :=
  extractStridedSlice S4096x8 ![0, 0] (Host.topK S4096x9 1 (FloatOps.cmpfTotal (F := Ideal) (φ := .f32) .gt) s
    sliceFits_S4096x8192_S4096x9).2 slices_S4096x9_S4096x8_0_0 (ix2 r k)

/-- The three tests of the precondition, each at one place. -/
theorem tests (u : IVec S8192x512 1) (s : FVec Ideal S4096x8192 .f32) (v : FVec Ideal S4096x9 .f32)
    (h : fn_part1 (F := Ideal) u s v = fun _ => 1#1) :
    (∀ (n : Fin 8192) (d : Fin 512), u (ix2 n d) = 1#1)
      ∧ (∀ (r : Fin 4096) (k : Fin 8), cmpf .ogt (extractStridedSlice S4096x8 ![0, 0] v slices_S4096x9_S4096x8_0_0)
          (extractStridedSlice S4096x8 ![0, 1] v slices_S4096x9_S4096x8_0_1) (ix2 r k) = 1#1)
      ∧ ∀ (r : Fin 4096) (k : Fin 8), (Finset.univ.fold IntOp.addi 0#32 fun j : Fin 8 =>
          BitVec.setWidth 32 (IntOp.cmpi .eq (position s r k &&& 127#32) (position s r j &&& 127#32))).toInt ≤ 4 := by
  have h0 := congrFun h fun a => a.elim0
  obtain ⟨h12, h3⟩ := IntOp.andi_eq_one.1 h0
  obtain ⟨h1, h2⟩ := IntOp.andi_eq_one.1 h12
  refine ⟨fun n d => Host.reduce_andi_all _ _ _ _ _ h1 (ix2 n d), fun r k => Host.reduce_andi_all _ _ _ _ _ h2 (ix2 r k), fun r k => ?_⟩
  have := IntOp.cmpi_sle.1 (Host.reduce_andi_all _ _ _ _ _ h3 (ix2 r k))
  revert this
  pointwise [position]
  exact id

/-- Adding up eight truth values counts the true ones. -/
theorem count_eq (S : Finset (Fin 8)) (p : Fin 8 → Prop) [DecidablePred p] (f : Fin 8 → BitVec 1) (hf : ∀ j, f j = 1#1 ↔ p j) :
    (S.fold IntOp.addi 0#32 fun j => BitVec.setWidth 32 (f j)) = BitVec.ofNat 32 (S.filter p).card := by
  classical
  induction S using Finset.induction_on with
  | empty => rfl
  | insert a S ha ih =>
    rw [Finset.fold_insert ha, ih, Finset.filter_insert]
    have hb : f a = 0#1 ∨ f a = 1#1 := (by decide : ∀ v : BitVec 1, v = 0#1 ∨ v = 1#1) (f a)
    by_cases h : p a
    · rw [if_pos h, (hf a).2 h, Finset.card_insert_of_notMem (fun hm => ha (Finset.mem_filter.1 hm).1), Nat.add_comm, BitVec.ofNat_add]
      rfl
    · rw [if_neg h, hb.resolve_right (fun e => h ((hf a).1 e))]
      exact BitVec.zero_add _

/-- Two positions are in one lane when their last seven bits agree. -/
theorem lane_eq (a b : ℕ) (ha : a < 8192) (hb : b < 8192) :
    BitVec.ofNat 32 a &&& 127#32 = BitVec.ofNat 32 b &&& 127#32 ↔ b % 128 = a % 128 := by
  have low : ∀ n < 8192, (BitVec.ofNat 32 n &&& 127#32).toNat = n % 128 := fun n hn => by
    rw [BitVec.toNat_and, BitVec.toNat_ofNat, Nat.mod_eq_of_lt (by omega)]
    exact Nat.and_two_pow_sub_one_eq_mod n 7
  rw [← BitVec.toNat_inj, low a ha, low b hb]
  exact eq_comm

variable (x0 : FVec Ideal S4096x512 .f32) (x1 : FVec Ideal S8192x512 .f32) (x2 : FVec Ideal S512x512 .f32)
  (x3 : FVec Ideal S512x1024 .f32) (x4 : FVec Ideal S512 .f32)

/-- The stored patterns, by position. -/
def patterns (n : ℕ) (d : Fin 512) : EReal := x1 (ix2 ⟨n % 8192, Nat.mod_lt _ (by decide)⟩ d)

/-- Row `r`'s scores. -/
def rowScore (r : Fin 4096) (n : Fin 8192) : EReal :=
  Cert.KernelIdeal.Recall.score (fun e => x0 (ix2 r e)) (patterns x1) n.val

theorem patterns_val (n : Fin 8192) (d : Fin 512) : patterns x1 n.val d = x1 (ix2 n d) := by
  unfold patterns
  congr 2
  exact Fin.ext (Nat.mod_eq_of_lt n.isLt)

/-- The array of scores the precondition ranks. -/
def scores : FVec Ideal S4096x8192 .f32 :=
  Ideal.matmul dot_S4096x512_S512x8192_S4096x8192_1_0_0_1_n_n
    (Host.divf x0 (broadcastInDim S4096x512 ![0, 1] bcast_S4096x1_S4096x512_0_1
      (maximumf (Host.sqrt (broadcastInDim S4096x1 ![0] bcast_S4096_S4096x1_0
        (Host.reduceAdd (mulf x0 x0) (constant S_ FTy.f32 0#32) reducesTo_S4096x512_S4096_d1 h_S_)))
        (broadcastInDim S4096x1 ![] bcast_S_S4096x1 (constant S_ FTy.f32 730643660#32)))))
    (transpose S512x8192 [1, 0] x1 transposes_S8192x512_S512x8192_1_0) fun _ => 0

theorem scores_apply (r : Fin 4096) (n : Fin 8192) : scores x0 x1 (ix2 r n) = rowScore x0 x1 r n := by
  unfold rowScore Cert.KernelIdeal.Recall.score
  simp only [patterns_val]
  pointwise [scores]
  rfl

theorem of_ofBool {p : Prop} [Decidable p] (h : BitVec.ofBool (decide p) = 1#1) : p := by
  by_contra hn
  rw [decide_eq_false hn] at h
  exact absurd h (by decide)

theorem fin8_filter (p : ℕ → Prop) [DecidablePred p] :
    ((Finset.univ : Finset (Fin 8)).filter fun j => p j.val).card = ((Finset.range 8).filter p).card := by
  rw [← Finset.card_map Fin.valEmbedding]
  congr 1
  ext a
  simp only [Finset.mem_map, Finset.mem_filter, Finset.mem_univ, true_and, Finset.mem_range, Fin.valEmbedding_apply]
  exact ⟨fun ⟨j, hj, e⟩ => e ▸ ⟨j.isLt, hj⟩, fun ⟨ha, hp⟩ => ⟨⟨a, ha⟩, hp, rfl⟩⟩

/-- Under the precondition normalising a pattern leaves it, and the ranking of each row of scores is a strict top eight that
    puts at most four positions in a lane. -/
theorem conditions (h : fn (F := Ideal) x0 x1 x2 x3 x4 = fun _ => 1#1) :
    (∀ (n : Fin 8192) (d : Fin 512), Cert.KernelIdeal.Recall.unitCue (fun e => x1 (ix2 n e)) d = x1 (ix2 n d))
      ∧ ∀ r : Fin 4096, LaneTop.TopEight (Cert.KernelIdeal.Recall.score (fun e => x0 (ix2 r e)) (patterns x1))
          (Ranking.rankPos (rowScore x0 x1 r)) := by
  obtain ⟨hu, hw, hl⟩ := tests _ _ _ h
  revert hu hw hl
  pointwise [position]
  intro hu hw hl
  have es : ∀ r, (fun n => scores x0 x1 (ix2 r n)) = rowScore x0 x1 r := fun r => funext (scores_apply x0 x1 r)
  refine ⟨fun n d => ?_, fun r => Ranking.topEight _ _ (fun n => rfl) (fun k hk => ?_) fun k hk => ?_⟩
  · exact of_ofBool (hu n d)
  · have e : ∀ (k : Fin 9), (Host.topK S4096x9 1 (FloatOps.cmpfTotal (F := Ideal) (φ := .f32) .gt) (scores x0 x1)
        sliceFits_S4096x8192_S4096x9).1 (ix2 r k)
        = Cert.KernelIdeal.Recall.score (fun e => x0 (ix2 r e)) (patterns x1) (Ranking.rankPos (rowScore x0 x1 r) k.val) := fun k => by
      have hk : k.val < 8192 := by omega
      rw [Ranking.topK_value (scores x0 x1) _ r k hk, scores_apply, es, Ranking.rankPos, dif_pos hk]
      rfl
    have hw' := of_ofBool (hw r ⟨k, hk⟩)
    rw [Nat.add_comm k 1]
    exact lt_of_eq_of_lt (e ⟨1 + k, by omega⟩).symm (lt_of_lt_of_eq hw' (e ⟨k, by omega⟩))
  · have e : ∀ (k : Fin 9), (Host.topK S4096x9 1 (FloatOps.cmpfTotal (F := Ideal) (φ := .f32) .gt) (scores x0 x1)
        sliceFits_S4096x8192_S4096x9).2 (ix2 r k) = BitVec.ofNat 32 (Ranking.rankPos (rowScore x0 x1 r) k.val) := fun k => by
      rw [Ranking.topK_index (scores x0 x1) _ r k (by omega), es]
    have hl' := hl r ⟨k, hk⟩
    rw [count_eq Finset.univ (fun j : Fin 8 => Ranking.rankPos (rowScore x0 x1 r) j.val % 128 = Ranking.rankPos (rowScore x0 x1 r) k % 128) _
      fun j => IntOp.cmpi_eq.trans ?_] at hl'
    · rw [fin8_filter fun j => Ranking.rankPos (rowScore x0 x1 r) j % 128 = Ranking.rankPos (rowScore x0 x1 r) k % 128] at hl'
      have hc := (Finset.card_filter_le (Finset.range 8) fun j => Ranking.rankPos (rowScore x0 x1 r) j % 128 = Ranking.rankPos (rowScore x0 x1 r) k % 128)
      rw [Finset.card_range] at hc
      rw [BitVec.toInt_ofNat'] at hl'
      simp only [Int.bmod] at hl'
      omega
    · refine Iff.trans ?_ (lane_eq _ _ (Ranking.rankPos_lt _ k) (Ranking.rankPos_lt _ j.val))
      rw [← e ⟨k, by omega⟩, ← e ⟨j.val, by omega⟩]
      exact Iff.rfl

end Cert.Pre_recallable.Conditions

end
-- ==== Proof.KernelResult.lean ====
/- The kernel's result in terms of its arguments, row by row. -/
module

public import proofs.«01_k».proof.Proof.KernelValue
public import proofs.«01_k».proof.Proof.Result
public import proofs.«01_k».proof.Proof.Conditions

@[expose] public section

set_option Elab.async false

noncomputable section

namespace Cert.KernelIdeal.Recall

open Idealize.ShloMosaic Idealize.ShloMosaic.TcCoe Idealize.SL.Sem
open Cert.KernelIdeal Cert.KernelIdeal.Gen
open Cert.Pre_recallable.Conditions (patterns)

variable (m : (ℓ : Loc nD τ sig) → Buf (Elt Ideal) ℓ) (c : Dev nD)

/-- The left half of the gate's weights, turned. -/
theorem V_gateCue : V m c main_v1 = transpose S512x512 [1, 0]
    (extractStridedSlice S512x512 ![0, 0] (m ((c : Thread nD τ).loc main_arg3)) slices_S512x1024_S512x512_0_0)
    transposes_S512x512_S512x512_1_0 := by
  unfold V
  simp only [hostOps0]
  after_results_simp
  all_goals rfl

/-- The right half of the gate's weights, turned. -/
theorem V_gateRecall : V m c main_v3 = transpose S512x512 [1, 0]
    (extractStridedSlice S512x512 ![0, 512] (m ((c : Thread nD τ).loc main_arg3)) slices_S512x1024_S512x512_0_512)
    transposes_S512x512_S512x512_1_0 := by
  unfold V
  simp only [hostOps0]
  after_results_simp
  all_goals rfl

/-- The read-out's weights, turned. -/
theorem V_readout : V m c main_v4 = transpose S512x512 [1, 0] (m ((c : Thread nD τ).loc main_arg2))
    transposes_S512x512_S512x512_1_0 := by
  unfold V
  simp only [hostOps0]
  after_results_simp
  all_goals rfl

/-- The bias as one row. -/
theorem V_bias : V m c main_v5 = shapeCast S1x512 (m ((c : Thread nD τ).loc main_arg4)) shapeCasts_S512_S1x512 := by
  unfold V
  simp only [hostOps0]
  after_results_simp
  all_goals rfl

theorem cueBlock_row (r : Fin 4096) (e : Fin 512) :
    cueBlock m c (r.val / 512) (ix2 ⟨r.val % 512, Nat.mod_lt _ (by decide)⟩ e) = m ((c : Thread nD τ).loc main_arg0) (ix2 r e) := by
  unfold cueBlock
  rw [V_main_arg0]
  congr 1
  funext a
  apply Fin.ext
  match a with
  | ⟨0, _⟩ => show (512 * (r.val / 512) + r.val % 512) % 4096 = r.val; omega
  | ⟨1, _⟩ => rfl

theorem patChunk_row (k : ℕ) (n : Fin 1024) (d : Fin 512) :
    patChunk m c k (ix2 n d) = patterns (m ((c : Thread nD τ).loc main_arg1)) (1024 * k + n) d := by
  unfold patChunk patterns
  rw [V_main_arg1]
  congr 1
  funext a
  match a with
  | ⟨0, _⟩ => rfl
  | ⟨1, _⟩ => rfl

theorem gateCue_apply (e x : Fin 512) : V m c main_v1 (ix2 e x) = m ((c : Thread nD τ).loc main_arg3) (ix2 x ⟨e.val, by omega⟩) := by
  rw [V_gateCue]
  pointwise []

theorem gateRecall_apply (e x : Fin 512) :
    V m c main_v3 (ix2 e x) = m ((c : Thread nD τ).loc main_arg3) (ix2 x ⟨512 + e.val, by omega⟩) := by
  rw [V_gateRecall]
  pointwise []

theorem readout_apply (x o : Fin 512) : V m c main_v4 (ix2 x o) = m ((c : Thread nD τ).loc main_arg2) (ix2 o x) := by
  rw [V_readout]
  pointwise []

theorem bias_apply (x : Fin 512) : V m c main_v5 (ix2 0 x) = m ((c : Thread nD τ).loc main_arg4) (ix1 x) := by
  rw [V_bias]
  pointwise []

/-- A row of the result whose scores have a strict top eight is the gated read-out of the mean of the eight patterns. -/
theorem result_apply (r : Fin 4096) (o : Fin 512) (idx : ℕ → ℕ)
    (ht : LaneTop.TopEight (score (fun e => m ((c : Thread nD τ).loc main_arg0) (ix2 r e)) (patterns (m ((c : Thread nD τ).loc main_arg1)))) idx) :
    resultOf m c (ix2 r o)
      = gated (fun e => m ((c : Thread nD τ).loc main_arg0) (ix2 r e))
          (fun d => Ideal.div
            (∑ k ∈ Finset.range 8, Ideal.exp (score (fun e => m ((c : Thread nD τ).loc main_arg0) (ix2 r e))
                (patterns (m ((c : Thread nD τ).loc main_arg1))) (idx k)) * patterns (m ((c : Thread nD τ).loc main_arg1)) (idx k) d)
            (∑ k ∈ Finset.range 8, Ideal.exp (score (fun e => m ((c : Thread nD τ).loc main_arg0) (ix2 r e))
                (patterns (m ((c : Thread nD τ).loc main_arg1))) (idx k))))
          (fun e x => m ((c : Thread nD τ).loc main_arg3) (ix2 x ⟨e.val, by omega⟩))
          (fun e x => m ((c : Thread nD τ).loc main_arg3) (ix2 x ⟨512 + e.val, by omega⟩))
          (fun x o => m ((c : Thread nD τ).loc main_arg2) (ix2 o x))
          (fun x => m ((c : Thread nD τ).loc main_arg4) (ix1 x)) o := by
  have hb : inBlock (ix2 r o) = ix2 ⟨r.val % 512, Nat.mod_lt _ (by decide)⟩ o := by
    funext a
    apply Fin.ext
    match a with
    | ⟨0, _⟩ => rfl
    | ⟨1, _⟩ => exact Nat.mod_eq_of_lt o.isLt
  have hc := fun e => cueBlock_row m c r e
  have hout := outOf_apply (cueBlock m c (r.val / 512)) (patChunk m c) (patterns (m ((c : Thread nD τ).loc main_arg1)))
    (fun k _ n d => patChunk_row m c k n d) ⟨r.val % 512, Nat.mod_lt _ (by decide)⟩ (idx := idx) (by simp only [hc]; exact ht)
    (V m c main_v1) (V m c main_v3) (V m c main_v4) (V m c main_v5) o
  simp only [hc] at hout
  refine Eq.trans ?_ (hout.trans ?_)
  · show outBlock m c (r.val / 512) (inBlock (ix2 r o)) = _
    rw [hb]
    rfl
  · exact congrFun (congr (congr (congr (congrArg (gated _ _) (funext fun e => funext fun x => gateCue_apply m c e x))
      (funext fun e => funext fun x => gateRecall_apply m c e x)) (funext fun x => funext fun o => readout_apply m c x o))
      (funext fun x => bias_apply m c x)) o

end Cert.KernelIdeal.Recall

end
-- ==== Proof.ReferenceRead.lean ====
/- The reference's values, read entry by entry. -/
module

public import proofs.«01_k».proof.Proof.Conditions
public import proofs.«01_k».proof.Proof.Gen.ReferenceIdeal.Read

@[expose] public section

set_option Elab.async false

noncomputable section

namespace Cert.ReferenceIdeal.Recall

open Idealize.ShloMosaic Cert.ReferenceIdeal Cert.ReferenceIdeal.Gen Cert.ReferenceIdeal.Read
open Cert.KernelIdeal.Recall (unitCue score eps negInf_eq gated)
open Cert.Pre_recallable.Conditions (patterns rowScore patterns_val)

variable (x0 : FVec Ideal S4096x512 .f32) (x1 : FVec Ideal S8192x512 .f32) (x2 : FVec Ideal S512x512 .f32)
  (x3 : FVec Ideal S512x1024 .f32) (x4 : FVec Ideal S512 .f32)

/-- The small constant is a positive real. -/
theorem eps_real : ∃ ε : ℝ, 0 < ε ∧ eps = ε := by
  refine ⟨9223372 * 2 ^ (-63 : ℤ), by positivity, ?_⟩
  unfold eps
  simp [Ideal.ofBits, Ideal.ieee]

theorem unit_real (q : Fin 512 → EReal) (d : Fin 512) : ∃ x : ℝ, unitCue q d = x := by
  obtain ⟨ε, h0, he⟩ := eps_real
  unfold unitCue
  rw [he]
  exact Softmax.unit_real q ε h0 d

/-- The gather takes a whole row: the one its index names. -/
theorem gather_row (idx : IVec S4096x8x1 32) (r : Fin 4096) (k : Fin 8) (d : Fin 512) (v : ℕ) (hv : v < 8192)
    (e : idx (ix3 r k 0) = BitVec.ofNat 32 v) :
    Host.gather gather_S8192x512_S4096x8x1_S4096x8x512_2_0_n_n_0_2_1512 x1 idx (ix3 r k d) = x1 (ix2 ⟨v, hv⟩ d) := by
  unfold Host.gather
  congr 1
  funext a
  refine Fin.ext ?_
  show gather_S8192x512_S4096x8x1_S4096x8x512_2_0_n_n_0_2_1512.start (ix3 r k d) idx a
    + gather_S8192x512_S4096x8x1_S4096x8x512_2_0_n_n_0_2_1512.batchCoord (ix3 r k d) a
    + gather_S8192x512_S4096x8x1_S4096x8x512_2_0_n_n_0_2_1512.offCoord (ix3 r k d) a = _
  rw [GatherDims.batchCoord_eq_zero _ _ _ List.not_mem_nil, Nat.add_zero]
  match a with
  | ⟨0, _⟩ =>
    rw [GatherDims.offCoord_eq_zero _ _ _ (fun h => ((GatherDims.mem_sKept _ _).1 h).1 (List.mem_singleton.2 rfl)), Nat.add_zero]
    unfold GatherDims.start
    rw [dif_pos (show (⟨0, Nat.zero_lt_two⟩ : Fin 2) ∈ gather_S8192x512_S4096x8x1_S4096x8x512_2_0_n_n_0_2_1512.startIndexMap from
      List.mem_singleton.2 rfl)]
    have hs : ∀ c, gather_S8192x512_S4096x8x1_S4096x8x512_2_0_n_n_0_2_1512.siIdx (ix3 r k d) c = ix3 r k 0 := fun c => by
      funext b
      match b with
      | ⟨0, _⟩ => rfl
      | ⟨1, _⟩ => rfl
      | ⟨2, _⟩ => exact Subsingleton.elim (α := Fin 1) _ _
    rw [hs, e]
    show min (BitVec.ofNat 32 v).toInt.toNat 8191 = v
    rw [BitVec.toInt_ofNat']
    simp only [Int.bmod]
    omega
  | ⟨1, _⟩ =>
    unfold GatherDims.start
    rw [dif_neg (show (⟨1, Nat.one_lt_two⟩ : Fin 2) ∉ gather_S8192x512_S4096x8x1_S4096x8x512_2_0_n_n_0_2_1512.startIndexMap from
      fun h => absurd (List.mem_singleton.1 h) (by decide)), Nat.zero_add]
    rfl

/-- The scores ranked are the precondition's: normalising the patterns leaves them. -/
theorem scores_read (hu : ∀ (n : Fin 8192) (d : Fin 512), unitCue (fun e => x1 (ix2 n e)) d = x1 (ix2 n d)) (r : Fin 4096) (n : Fin 8192) :
    val_main_v11 (F := Ideal) x0 x1 (ix2 r n) = rowScore x0 x1 r n := by
  unfold rowScore score
  simp only [patterns_val]
  pointwise [val_main_v11, val_main_v4, val_main_v3, val_main_v2, val_main_v1, val_main_v0, val_main_cst, val_main_call0_v2,
    val_main_call0_v1, val_main_call0_v0, val_main_call0_cst, val_main_v10, val_main_v9, val_main_v8, val_main_v7, val_main_v6,
    val_main_v5, val_main_cst_0, val_main_call1_v2, val_main_call1_v1, val_main_call1_v0, val_main_call1_cst]
  exact Finset.sum_congr rfl fun d _ => congrArg _ (hu n d)

/-- The value and the position listed at each rank. -/
theorem values_read (hu : ∀ (n : Fin 8192) (d : Fin 512), unitCue (fun e => x1 (ix2 n e)) d = x1 (ix2 n d)) (r : Fin 4096) (k : Fin 8) :
    val_main_values (F := Ideal) x0 x1 (ix2 r k)
      = score (fun e => x0 (ix2 r e)) (patterns x1) (Ranking.rankPos (rowScore x0 x1 r) k.val) := by
  have es : (fun n => val_main_v11 (F := Ideal) x0 x1 (ix2 r n)) = rowScore x0 x1 r := funext (scores_read x0 x1 hu r)
  have hk : k.val < 8192 := by omega
  unfold val_main_values
  rw [Ranking.topK_value (val_main_v11 (F := Ideal) x0 x1) _ r k hk, scores_read x0 x1 hu, es, Ranking.rankPos, dif_pos hk]
  rfl

theorem indices_read (hu : ∀ (n : Fin 8192) (d : Fin 512), unitCue (fun e => x1 (ix2 n e)) d = x1 (ix2 n d)) (r : Fin 4096) (k : Fin 8) :
    val_main_indices (F := Ideal) x0 x1 (ix2 r k) = BitVec.ofNat 32 (Ranking.rankPos (rowScore x0 x1 r) k.val) := by
  have es : (fun n => val_main_v11 (F := Ideal) x0 x1 (ix2 r n)) = rowScore x0 x1 r := funext (scores_read x0 x1 hu r)
  unfold val_main_indices
  rw [Ranking.topK_index (val_main_v11 (F := Ideal) x0 x1) _ r k (by omega), es]

/-- The weights are the exponentials of the values, less their maximum, over the sum of those. -/
theorem weights_read (r : Fin 4096) (k : Fin 8) :
    val_main_v22 (F := Ideal) x0 x1 (ix2 r k)
      = Ideal.div (Ideal.exp (val_main_values (F := Ideal) x0 x1 (ix2 r k)
            - Finset.univ.sup fun j : Fin 8 => val_main_values (F := Ideal) x0 x1 (ix2 r j)))
          (∑ i : Fin 8, Ideal.exp (val_main_values (F := Ideal) x0 x1 (ix2 r i)
            - Finset.univ.sup fun j : Fin 8 => val_main_values (F := Ideal) x0 x1 (ix2 r j))) := by
  pointwise [val_main_v22, val_main_v21, val_main_v20, val_main_v19, val_main_v18, val_main_v17, val_main_v16, val_main_v15,
    val_main_v14, val_main_v13, val_main_v12, val_main_cst_1, val_main_cst_2, val_main_cst_3]
  rw [negInf_eq, max_eq_right bot_le]
  rfl

/-- A position below 8192 passes the gather's range tests. -/
theorem in_range (v : ℕ) (hv : v < 8192) :
    IntOp.cmpi .slt (BitVec.ofNat 32 v) 0#32 = 0#1 ∧ IntOp.cmpi .sge (BitVec.ofNat 32 v) 0#32 = 1#1
      ∧ IntOp.cmpi .sle (BitVec.ofNat 32 v) 8191#32 = 1#1 := by
  have hi : (BitVec.ofNat 32 v).toInt = v := by
    rw [BitVec.toInt_ofNat']
    simp only [Int.bmod]
    omega
  have h0 : (0#32).toInt = 0 := rfl
  have h1 : (8191#32).toInt = 8191 := rfl
  refine ⟨?_, IntOp.cmpi_sge.2 (by omega), IntOp.cmpi_sle.2 (by omega)⟩
  exact ((by decide : ∀ b : BitVec 1, b = 0#1 ∨ b = 1#1) _).resolve_right fun e => by
    have := IntOp.cmpi_slt.1 e
    omega

/-- The row gathered for each rank is the pattern at its position. -/
theorem gathered_read (hu : ∀ (n : Fin 8192) (d : Fin 512), unitCue (fun e => x1 (ix2 n e)) d = x1 (ix2 n d)) (r : Fin 4096) (k : Fin 8) (d : Fin 512) :
    val_main_v23 (F := Ideal) x0 x1 (ix3 r k d) = patterns x1 (Ranking.rankPos (rowScore x0 x1 r) k.val) d := by
  have hv := Ranking.rankPos_lt (rowScore x0 x1 r) k.val
  obtain ⟨h0, h1, h2⟩ := in_range _ hv
  have hg : val_main_call2_v13 (F := Ideal) x0 x1 (ix3 r k d) = patterns x1 (Ranking.rankPos (rowScore x0 x1 r) k.val) d := by
    refine (gather_row x1 _ r k d _ hv ?_).trans (patterns_val x1 ⟨_, hv⟩ d).symm
    pointwise [val_main_call2_v5, val_main_call2_v4, val_main_call2_v3, val_main_call2_v2, val_main_call2_v1, val_main_call2_v0,
      val_main_call2_c, val_main_call2_c_0]
    rw [indices_read x0 x1 hu, h0]
    rfl
  rw [← hg]
  pointwise [val_main_v23, val_main_call2_v14, val_main_call2_v12, val_main_call2_v11, val_main_call2_v10, val_main_call2_v9,
    val_main_call2_v8, val_main_call2_v7, val_main_call2_v6, val_main_call2_v5, val_main_call2_v4, val_main_call2_v3,
    val_main_call2_v2, val_main_call2_v1, val_main_call2_v0, val_main_call2_c, val_main_call2_c_0, val_main_call2_c_1,
    val_main_call2_c_2, val_main_call2_c_3]
  rw [indices_read x0 x1 hu, h0]
  have e : Scalar.select 0#1 (IntOp.addi (BitVec.ofNat 32 (Ranking.rankPos (rowScore x0 x1 r) k.val)) 8192#32)
      (BitVec.ofNat 32 (Ranking.rankPos (rowScore x0 x1 r) k.val)) = BitVec.ofNat 32 (Ranking.rankPos (rowScore x0 x1 r) k.val) := rfl
  rw [e, h1, h2]
  rfl

/-- The recalled pattern: the mean of the eight best with weights the exponentials of their scores. -/
theorem mean_read (hu : ∀ (n : Fin 8192) (d : Fin 512), unitCue (fun e => x1 (ix2 n e)) d = x1 (ix2 n d)) (r : Fin 4096) (d : Fin 512) :
    val_main_v27 (F := Ideal) x0 x1 (ix2 r d)
      = Ideal.div (∑ k ∈ Finset.range 8, Ideal.exp (score (fun e => x0 (ix2 r e)) (patterns x1) (Ranking.rankPos (rowScore x0 x1 r) k))
            * patterns x1 (Ranking.rankPos (rowScore x0 x1 r) k) d)
          (∑ k ∈ Finset.range 8, Ideal.exp (score (fun e => x0 (ix2 r e)) (patterns x1) (Ranking.rankPos (rowScore x0 x1 r) k))) := by
  have hP : ∀ n d, ∃ x : ℝ, patterns x1 n d = x := fun n d => by
    obtain ⟨a, ha⟩ := unit_real (fun e => patterns x1 n e) d
    exact ⟨a, (hu ⟨n % 8192, Nat.mod_lt _ (by decide)⟩ d).symm.trans ha⟩
  have hs : ∀ n, ∃ x : ℝ, score (fun e => x0 (ix2 r e)) (patterns x1) n = x := fun n =>
    Softmax.sum_real _ _ fun d => by
      obtain ⟨a, ha⟩ := unit_real (fun e => x0 (ix2 r e)) d
      obtain ⟨b, hb⟩ := hP n d
      exact ⟨a * b, by rw [ha, hb, EReal.coe_mul]⟩
  rw [Finset.sum_range, Finset.sum_range]
  pointwise [val_main_v27, val_main_v26, val_main_v25, val_main_v24, val_main_cst_4]
  simp only [weights_read, gathered_read x0 x1 hu, values_read x0 x1 hu]
  exact Softmax.mean_eq (fun k : Fin 8 => score (fun e => x0 (ix2 r e)) (patterns x1) (Ranking.rankPos (rowScore x0 x1 r) k.val))
    (fun k : Fin 8 => patterns x1 (Ranking.rankPos (rowScore x0 x1 r) k.val) d) _ (fun k => hs _) (fun k => hP _ d)
    (Softmax.max_real _ fun k => hs _)

/-- The reference's result is the gated read-out of the recalled pattern. -/
theorem result_read (r : Fin 4096) (o : Fin 512) :
    val_main_v43 (F := Ideal) x0 x1 x2 x3 x4 (ix2 r o)
      = gated (fun e => x0 (ix2 r e)) (fun d => val_main_v27 (F := Ideal) x0 x1 (ix2 r d)) (fun e x => x3 (ix2 x ⟨e.val, by omega⟩))
          (fun e x => x3 (ix2 x ⟨512 + e.val, by omega⟩)) (fun x o => x2 (ix2 o x)) (fun x => x4 (ix1 x)) o := by
  pointwise [val_main_v43, val_main_v42, val_main_v41, val_main_v40, val_main_v39, val_main_v38, val_main_v37, val_main_v36,
    val_main_v35, val_main_v34, val_main_v33, val_main_v32, val_main_v31, val_main_v30, val_main_v29, val_main_v28,
    val_main_cst_5, val_main_cst_6]
  rfl

end Cert.ReferenceIdeal.Recall

end
-- ==== Proof.Values.lean ====
/- The equation of values: under the precondition the kernel and the reference end with the same result. -/
module

public import proofs.«01_k».proof.Defs
public import proofs.«01_k».proof.Proof.KernelResult
public import proofs.«01_k».proof.Proof.ReferenceRead

@[expose] public section

set_option Elab.async false

noncomputable section

namespace Cert.Values

open Idealize.ShloMosaic Idealize.ShloMosaic.TcCoe Idealize.SL.Sem
open Cert.KernelIdeal.Recall (resultOf result_apply run_result)
open Cert.ReferenceIdeal.Read (val_main_v43)

/-- The kernel's result is the reference's value of the arguments. -/
theorem result_eq (m : (ℓ : Loc Cert.KernelIdeal.nD Cert.KernelIdeal.τ Cert.KernelIdeal.sig) → Buf (Elt Ideal) ℓ)
    (c : Dev Cert.KernelIdeal.nD)
    (h : Cert.Pre_recallable.fn (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)) = fun _ => 1#1) :
    resultOf m c = val_main_v43 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)) := by
  obtain ⟨hu, ht⟩ := Cert.Pre_recallable.Conditions.conditions _ _ _ _ _ h
  funext i
  obtain ⟨r, o, rfl⟩ : ∃ (r : Fin 4096) (o : Fin 512), i = ix2 r o := ⟨i 0, i 1, by
    funext a
    match a with
    | ⟨0, _⟩ => rfl
    | ⟨1, _⟩ => rfl⟩
  rw [result_apply m c r o _ (ht r)]
  refine Eq.trans ?_ (Cert.ReferenceIdeal.Recall.result_read _ _ _ _ _ r o).symm
  rw [funext fun d => Cert.ReferenceIdeal.Recall.mean_read _ _ hu r d]

theorem algebraic : Cert.algebraic_KernelIdeal_ReferenceIdeal_pre_recallable := by
  intro m g m' g' hp ha
  refine ⟨resultOf m, run_result m g, (θ_run _ _ _).mono (fun _ h c => ⟨(h c).1.trans ?_, (h c).2⟩) (Cert.ReferenceIdeal.Value.run m' g')⟩
  obtain ⟨e0, e1, e2, e3, e4⟩ := ha c
  rw [result_eq m c (hp c), Cert.ReferenceIdeal.Read.val_main_v43_eq]
  rw [e0, e1, e2, e3, e4]

end Cert.Values

end
-- ==== Proof.lean ====
/- The proof of the claim, assembled: the frames of the three programs and the equation of values. -/
module

public import proofs.«01_k».proof.Defs
public import proofs.«01_k».proof.Proof.Frames
public import proofs.«01_k».proof.Proof.Values

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_recallable.Gen.facts,
    fun m g _ => Cert.Frames.kernel m g,
    fun m g _ => Cert.KernelIdeal.Recall.frame m g,
    fun m g _ => Cert.KernelIdeal.Recall.frame m g,
    fun m g _ => Cert.Frames.reference m g,
    fun m g _ => Cert.Frames.reference m g,
    trivial,
    Cert.Values.algebraic⟩

end Cert.Proof

end
